-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x256x18944 : Shape := ⟨3, ![8, 256, 18944]⟩
abbrev S18944x3584 : Shape := ⟨2, ![18944, 3584]⟩
abbrev S3584 : Shape := ⟨1, ![3584]⟩
abbrev S2x18944x16 : Shape := ⟨3, ![2, 18944, 16]⟩
abbrev S2x16x1792 : Shape := ⟨3, ![2, 16, 1792]⟩
abbrev S_ : Shape := ⟨0, ![]⟩

class Facts : Prop where
  bcast_S_S8x256x18944 : S_.BroadcastsInDim S8x256x18944 (![] : Fin 0 → Fin S8x256x18944.rank)
  reducesTo_S8x256x18944_S_d0_1_2 : S8x256x18944.ReducesTo [0, 1, 2] S_
  h_S_ : 0 < S_.numel

variable [Facts]

def fn {F : FTy → Type} [FloatOps F] (main_arg0 : FVec F S8x256x18944 .bf16) (main_arg1 : FVec F S18944x3584 .fp8e4m3) (main_arg2 : FVec F S3584 .f32) (main_arg3 : FVec F S2x18944x16 .bf16) (main_arg4 : FVec F S2x16x1792 .bf16) : IVec S_ 1 :=
  let main_v0 : FVec F S8x256x18944 .bf16 := Host.absf main_arg0
  let main_cst : FVec F S_ .bf16 := constant S_ .bf16 0x7F7F#16
  let main_v1 : FVec F S8x256x18944 .bf16 := broadcastInDim S8x256x18944 ![] bcast_S_S8x256x18944 main_cst
  let main_v2 : IVec S8x256x18944 1 := cmpf .ole main_v0 main_v1
  let main_c : IVec S_ 1 := constantI S_ 1 1#1
  let main_v3 : IVec S_ 1 := (fun x v => Host.reduce IntOp.andi x v reducesTo_S8x256x18944_S_d0_1_2 h_S_) main_v2 main_c
  main_v3
-- ==== Kernel.lean ====
abbrev S8x256x18944 : Shape := ⟨3, ![8, 256, 18944]⟩
abbrev S18944x3584 : Shape := ⟨2, ![18944, 3584]⟩
abbrev S3584 : Shape := ⟨1, ![3584]⟩
abbrev S2x18944x16 : Shape := ⟨3, ![2, 18944, 16]⟩
abbrev S2x16x1792 : Shape := ⟨3, ![2, 16, 1792]⟩
abbrev S2048x18944 : Shape := ⟨2, ![2048, 18944]⟩
abbrev S2x16x18944 : Shape := ⟨3, ![2, 16, 18944]⟩
abbrev S2048x1 : Shape := ⟨2, ![2048, 1]⟩
abbrev S2x16x2048 : Shape := ⟨3, ![2, 16, 2048]⟩
abbrev S128x18944 : Shape := ⟨2, ![128, 18944]⟩
abbrev S128x1 : Shape := ⟨2, ![128, 1]⟩
abbrev S2x16x128 : Shape := ⟨3, ![2, 16, 128]⟩
abbrev S128 : Shape := ⟨1, ![128]⟩
abbrev S1x256 : Shape := ⟨2, ![1, 256]⟩
abbrev S128x256 : Shape := ⟨2, ![128, 256]⟩
abbrev S1x16x18944 : Shape := ⟨3, ![1, 16, 18944]⟩
abbrev S16x18944 : Shape := ⟨2, ![16, 18944]⟩
abbrev S16x128 : Shape := ⟨2, ![16, 128]⟩
abbrev S1x16x128 : Shape := ⟨3, ![1, 16, 128]⟩
abbrev S1x3584 : Shape := ⟨2, ![1, 3584]⟩
abbrev S2048x3584 : Shape := ⟨2, ![2048, 3584]⟩
abbrev S512x18944 : Shape := ⟨2, ![512, 18944]⟩
abbrev S18944x256 : Shape := ⟨2, ![18944, 256]⟩
abbrev S512x1 : Shape := ⟨2, ![512, 1]⟩
abbrev S1x16x512 : Shape := ⟨3, ![1, 16, 512]⟩
abbrev S1x16x256 : Shape := ⟨3, ![1, 16, 256]⟩
abbrev S512x256 : Shape := ⟨2, ![512, 256]⟩
abbrev S16x512 : Shape := ⟨2, ![16, 512]⟩
abbrev S16x256 : Shape := ⟨2, ![16, 256]⟩
abbrev S8x256x3584 : Shape := ⟨3, ![8, 256, 3584]⟩
abbrev S8x256x1 : Shape := ⟨3, ![8, 256, 1]⟩

abbrev nBuf : Space → Nat
  | .hbm => 15
  | .vmem => 23
  | .smem => 0
  | _ => 0

abbrev bufTy : (tb : Table) → Fin (tcTables nBuf tb) → BufTy
  | .hbm, ⟨0, _⟩ => ⟨S8x256x18944, .bf16⟩
  | .hbm, ⟨1, _⟩ => ⟨S18944x3584, .fp8e4m3⟩
  | .hbm, ⟨2, _⟩ => ⟨S3584, .f32⟩
  | .hbm, ⟨3, _⟩ => ⟨S2x18944x16, .bf16⟩
  | .hbm, ⟨4, _⟩ => ⟨S2x16x1792, .bf16⟩
  | .hbm, ⟨5, _⟩ => ⟨S2048x18944, .bf16⟩
  | .hbm, ⟨6, _⟩ => ⟨S2x16x18944, .bf16⟩
  | .hbm, ⟨7, _⟩ => ⟨S2048x18944, .fp8e4m3⟩
  | .hbm, ⟨8, _⟩ => ⟨S2048x1, .f32⟩
  | .hbm, ⟨9, _⟩ => ⟨S2x16x2048, .bf16⟩
  | .hbm, ⟨10, _⟩ => ⟨S1x3584, .f32⟩
  | .hbm, ⟨11, _⟩ => ⟨S2048x3584, .bf16⟩
  | .hbm, ⟨12, _⟩ => ⟨S8x256x3584, .bf16⟩
  | .hbm, ⟨13, _⟩ => ⟨S8x256x18944, .fp8e4m3⟩
  | .hbm, ⟨14, _⟩ => ⟨S8x256x1, .f32⟩
  | .local _ .vmem, ⟨0, _⟩ => ⟨S128x18944, .bf16⟩
  | .local _ .vmem, ⟨1, _⟩ => ⟨S128x18944, .bf16⟩
  | .local _ .vmem, ⟨2, _⟩ => ⟨S2x16x18944, .bf16⟩
  | .local _ .vmem, ⟨3, _⟩ => ⟨S128x18944, .fp8e4m3⟩
  | .local _ .vmem, ⟨4, _⟩ => ⟨S128x18944, .fp8e4m3⟩
  | .local _ .vmem, ⟨5, _⟩ => ⟨S128x1, .f32⟩
  | .local _ .vmem, ⟨6, _⟩ => ⟨S128x1, .f32⟩
  | .local _ .vmem, ⟨7, _⟩ => ⟨S2x16x128, .bf16⟩
  | .local _ .vmem, ⟨8, _⟩ => ⟨S2x16x128, .bf16⟩
  | .local _ .vmem, ⟨9, _⟩ => ⟨S512x18944, .fp8e4m3⟩
  | .local _ .vmem, ⟨10, _⟩ => ⟨S512x18944, .fp8e4m3⟩
  | .local _ .vmem, ⟨11, _⟩ => ⟨S18944x256, .fp8e4m3⟩
  | .local _ .vmem, ⟨12, _⟩ => ⟨S18944x256, .fp8e4m3⟩
  | .local _ .vmem, ⟨13, _⟩ => ⟨S512x1, .f32⟩
  | .local _ .vmem, ⟨14, _⟩ => ⟨S512x1, .f32⟩
  | .local _ .vmem, ⟨15, _⟩ => ⟨S1x256, .f32⟩
  | .local _ .vmem, ⟨16, _⟩ => ⟨S1x256, .f32⟩
  | .local _ .vmem, ⟨17, _⟩ => ⟨S1x16x512, .bf16⟩
  | .local _ .vmem, ⟨18, _⟩ => ⟨S1x16x512, .bf16⟩
  | .local _ .vmem, ⟨19, _⟩ => ⟨S1x16x256, .bf16⟩
  | .local _ .vmem, ⟨20, _⟩ => ⟨S1x16x256, .bf16⟩
  | .local _ .vmem, ⟨21, _⟩ => ⟨S512x256, .bf16⟩
  | .local _ .vmem, ⟨22, _⟩ => ⟨S512x256, .bf16⟩
  | _, _ => ⟨S8x256x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S128x18944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16x18944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x18944 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 14], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc1_transform_5 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x18944 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S18944x256 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x16x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x16x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S8x256x18944 : Shape := ⟨3, ![8, 256, 18944]⟩
abbrev S18944x3584 : Shape := ⟨2, ![18944, 3584]⟩
abbrev S3584 : Shape := ⟨1, ![3584]⟩
abbrev S2x18944x16 : Shape := ⟨3, ![2, 18944, 16]⟩
abbrev S2x16x1792 : Shape := ⟨3, ![2, 16, 1792]⟩
abbrev S8x256x3584 : Shape := ⟨3, ![8, 256, 3584]⟩
abbrev S8x256x1 : Shape := ⟨3, ![8, 256, 1]⟩
abbrev S8x256 : Shape := ⟨2, ![8, 256]⟩
abbrev S2048x18944 : Shape := ⟨2, ![2048, 18944]⟩
abbrev S2048x3584 : Shape := ⟨2, ![2048, 3584]⟩
abbrev S1x1x3584 : Shape := ⟨3, ![1, 1, 3584]⟩
abbrev S1x18944x16 : Shape := ⟨3, ![1, 18944, 16]⟩
abbrev S18944x16 : Shape := ⟨2, ![18944, 16]⟩
abbrev S2048x16 : Shape := ⟨2, ![2048, 16]⟩
abbrev S1x16x1792 : Shape := ⟨3, ![1, 16, 1792]⟩
abbrev S16x1792 : Shape := ⟨2, ![16, 1792]⟩
abbrev S2048x1792 : Shape := ⟨2, ![2048, 1792]⟩

abbrev nBuf : Space → Nat
  | .hbm => 8
  | .vmem => 8
  | .smem => 0
  | _ => 0

abbrev bufTy : (tb : Table) → Fin (tcTables nBuf tb) → BufTy
  | .hbm, ⟨0, _⟩ => ⟨S8x256x18944, .bf16⟩
  | .hbm, ⟨1, _⟩ => ⟨S18944x3584, .fp8e4m3⟩
  | .hbm, ⟨2, _⟩ => ⟨S3584, .f32⟩
  | .hbm, ⟨3, _⟩ => ⟨S2x18944x16, .bf16⟩
  | .hbm, ⟨4, _⟩ => ⟨S2x16x1792, .bf16⟩
  | .hbm, ⟨5, _⟩ => ⟨S8x256x3584, .bf16⟩
  | .hbm, ⟨6, _⟩ => ⟨S8x256x18944, .fp8e4m3⟩
  | .hbm, ⟨7, _⟩ => ⟨S8x256x1, .f32⟩
  | .local _ .vmem, ⟨0, _⟩ => ⟨S8x256x18944, .bf16⟩
  | .local _ .vmem, ⟨1, _⟩ => ⟨S18944x3584, .fp8e4m3⟩
  | .local _ .vmem, ⟨2, _⟩ => ⟨S3584, .f32⟩
  | .local _ .vmem, ⟨3, _⟩ => ⟨S2x18944x16, .bf16⟩
  | .local _ .vmem, ⟨4, _⟩ => ⟨S2x16x1792, .bf16⟩
  | .local _ .vmem, ⟨5, _⟩ => ⟨S8x256x3584, .bf16⟩
  | .local _ .vmem, ⟨6, _⟩ => ⟨S8x256x18944, .fp8e4m3⟩
  | .local _ .vmem, ⟨7, _⟩ => ⟨S8x256x1, .f32⟩
  | _, _ => ⟨S8x256x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x256x18944 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18944x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x18944x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x256x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x256x18944 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Exponent.lean ====
/- The power-of-two exponent of a row, on scalars. The kernel counts the powers of two `2^(k-127)` (patterns `k << 23`,
   `k = 0 … 255`) that are not above `v` and reads `2^e`, `2^(-e)` from the patterns `(e + 127) << 23`, `(-e + 127) << 23`;
   the reference takes `e = ⌊log v / log 2⌋ + 1` (zero for a zero row and below the least normal number) and `exp2`.
   On every finite row maximum the two agree. -/
module

public import Idealize.ShloMosaic.PureOps.Ideal
public import Idealize.ShloMosaic.PureOps.Ideal.Laws
public import Idealize.ShloMosaic.Lib.IndicatorCount

@[expose] public section

set_option maxRecDepth 16384

noncomputable section

namespace Cert.Exponent

open Idealize.ShloMosaic

/-- The pattern of the `k`-th power of two, as the kernel forms it. -/
def pat (k : Fin 256) : BitVec 32 :=
  IntOp.shli ArithUnit.vector (IntOp.addi (IntOp.subi (BitVec.ofNat 32 k.val) 127#32) 127#32) 23#32

/-- How many of the 256 powers of two are not above `v`. -/
def kerCount (v : EReal) : BitVec 32 :=
  Finset.fold IntOp.addi (0#32) (fun k : Fin 256 => if v < Ideal.ofBits .f32 (pat k) then 0#32 else 1#32) Finset.univ

/-- The kernel's exponent word from the count. -/
def expoOf (n : BitVec 32) : BitVec 32 :=
  Scalar.select (IntOp.cmpi .eq (IntOp.subi n 1#32) 0#32) 0#32 (IntOp.subi (IntOp.subi n 1#32) 126#32)

/-- The kernel's exponent word of a row whose largest magnitude is `a`. -/
def kerExpo (a : EReal) : BitVec 32 := expoOf (kerCount (a * Ideal.ofBits .f32 0x3B124925#32))

/-- The kernel's scale `2^e`, read from a pattern. -/
def kerScale (e : BitVec 32) : EReal := Ideal.ofBits .f32 (IntOp.shli ArithUnit.vector (IntOp.addi e 127#32) 23#32)

/-- The kernel's multiplier `2^(-e)`, read from a pattern. -/
def kerInv (e : BitVec 32) : EReal :=
  Ideal.ofBits .f32 (IntOp.shli ArithUnit.vector (IntOp.addi (IntOp.subi 0#32 e) 127#32) 23#32)

/-- The reference's exponent of a row whose largest magnitude is `a`. -/
def refExpo (a : EReal) : EReal :=
  if a = Ideal.ofBits .f32 0x00000000#32 then Ideal.ofBits .f32 0x00000000#32
  else if a * Ideal.ofBits .f32 0x3B124925#32 < Ideal.ofBits .f32 0x00800000#32 then Ideal.ofBits .f32 0x00000000#32
  else Ideal.liftRound Int.floor
      (Ideal.div (Ideal.log (a * Ideal.ofBits .f32 0x3B124925#32)) (Ideal.log (Ideal.ofBits .f32 0x40000000#32)))
    + Ideal.ofBits .f32 0x3F800000#32

/-! ## Patterns -/

theorem pat_eq : ∀ k : Fin 256, pat k = BitVec.ofNat 32 (k.val * 2 ^ 23) := by
  unfold pat; decide +kernel

theorem fields : ∀ k : Fin 256, ((BitVec.ofNat 32 (k.val * 2 ^ 23)).extractLsb' (8 + 23) 1 == 1#1) = false
    ∧ ((BitVec.ofNat 32 (k.val * 2 ^ 23)).extractLsb' 23 8).toNat = k.val
    ∧ ((BitVec.ofNat 32 (k.val * 2 ^ 23)).extractLsb' 0 23).toNat = 0 := by decide +kernel

theorem ofBits_f32 (b : BitVec 32) : Ideal.ofBits .f32 b = Ideal.ieee 8 23 b := rfl

/-- The pattern with exponent field `k`, `1 ≤ k ≤ 254`, reads `2^(k-127)`. -/
theorem ofBits_pow (k : ℕ) (h1 : 1 ≤ k) (h2 : k ≤ 254) :
    Ideal.ofBits .f32 (BitVec.ofNat 32 (k * 2 ^ 23)) = (((2 : ℝ) ^ ((k : ℤ) - 127) : ℝ) : EReal) := by
  obtain ⟨f1, f2, f3⟩ := fields ⟨k, by omega⟩
  simp only at f1 f2 f3
  rw [ofBits_f32]
  unfold Ideal.ieee
  simp only [f1, f2, f3]
  rw [if_neg (by omega), if_neg (by omega)]
  congr 1
  have h : (2 : ℝ) ^ ((k : ℤ) - (2 ^ (8 - 1) - 1) - (23 : ℕ)) = 2 ^ ((k : ℤ) - 127) * (2 : ℝ) ^ (-23 : ℤ) := by
    rw [← zpow_add₀ (by norm_num)]; congr 1
  rw [h]
  norm_num
  ring

theorem ofBits_zero : Ideal.ofBits .f32 (BitVec.ofNat 32 (0 * 2 ^ 23)) = 0 := Ideal.ofBits_zero_f32

theorem ofBits_top : Ideal.ofBits .f32 (BitVec.ofNat 32 (255 * 2 ^ 23)) = ⊤ := by
  obtain ⟨f1, f2, f3⟩ := fields ⟨255, by omega⟩
  simp only at f1 f2 f3
  rw [ofBits_f32]
  unfold Ideal.ieee
  simp [f1, f2, f3]

theorem ofBits_one : Ideal.ofBits .f32 0x3F800000#32 = ((1 : ℝ) : EReal) := by
  rw [show (0x3F800000#32 : BitVec 32) = BitVec.ofNat 32 (127 * 2 ^ 23) from by decide, ofBits_pow 127 (by omega) (by omega)]
  norm_num

theorem ofBits_two : Ideal.ofBits .f32 0x40000000#32 = ((2 : ℝ) : EReal) := by
  rw [show (0x40000000#32 : BitVec 32) = BitVec.ofNat 32 (128 * 2 ^ 23) from by decide, ofBits_pow 128 (by omega) (by omega)]
  norm_num

theorem ofBits_least : Ideal.ofBits .f32 0x00800000#32 = (((2 : ℝ) ^ (-126 : ℤ) : ℝ) : EReal) := by
  rw [show (0x00800000#32 : BitVec 32) = BitVec.ofNat 32 (1 * 2 ^ 23) from by decide, ofBits_pow 1 (by omega) (by omega)]
  norm_num

/-- The multiplier `1/448` of the scale is a positive real below `2^(-8)`. -/
theorem ofBits_mult : ∃ q : ℝ, Ideal.ofBits .f32 0x3B124925#32 = (q : EReal) ∧ 0 < q ∧ q < (2 : ℝ) ^ (-8 : ℤ) := by
  refine ⟨(2 ^ 23 + 1198373 : ℝ) * 2 ^ (-32 : ℤ), ?_, by positivity, by norm_num⟩
  rw [ofBits_f32]
  unfold Ideal.ieee
  have f1 : ((0x3B124925#32 : BitVec 32).extractLsb' (8 + 23) 1 == 1#1) = false := by decide
  have f2 : ((0x3B124925#32 : BitVec 32).extractLsb' 23 8).toNat = 118 := by decide
  have f3 : ((0x3B124925#32 : BitVec 32).extractLsb' 0 23).toNat = 1198373 := by decide
  simp only [f1, f2, f3]
  norm_num

/-! ## The count -/

/-- Whether `v` is below the `k`-th power of two, by position. -/
theorem below_iff (r : ℝ) (h0 : 0 ≤ r) (e : ℕ) (he : e ≤ 250) (hlo : e = 0 ∨ (2 : ℝ) ^ ((e : ℤ) - 127) ≤ r)
    (hhi : r < (2 : ℝ) ^ ((e : ℤ) + 1 - 127)) (k : Fin 256) :
    (r : EReal) < Ideal.ofBits .f32 (pat k) ↔ e < k.val := by
  rw [pat_eq]
  have hk := k.isLt
  rcases Nat.eq_zero_or_pos k.val with hk0 | hkpos
  · rw [hk0, ofBits_zero]
    constructor
    · intro h; exact absurd h (not_lt.2 (by exact_mod_cast h0))
    · intro h; omega
  rcases Nat.lt_or_ge k.val 255 with hk1 | hk1
  · rw [ofBits_pow k.val hkpos (by omega), EReal.coe_lt_coe_iff]
    constructor
    · intro h
      by_contra hc
      rcases hlo with hz | hlo
      · omega
      · have : (2 : ℝ) ^ ((k.val : ℤ) - 127) ≤ (2 : ℝ) ^ ((e : ℤ) - 127) := zpow_le_zpow_right₀ (by norm_num) (by omega)
        linarith
    · intro h
      have : (2 : ℝ) ^ ((e : ℤ) + 1 - 127) ≤ (2 : ℝ) ^ ((k.val : ℤ) - 127) := zpow_le_zpow_right₀ (by norm_num) (by omega)
      linarith
  · have : k.val = 255 := by omega
    rw [this, ofBits_top]
    constructor
    · intro _; omega
    · intro _; exact EReal.coe_lt_top r

theorem card_le : ∀ e : Fin 251, (Finset.univ.filter fun k : Fin 256 => ¬ e.val < k.val).card = e.val + 1 := by
  decide +kernel

theorem kerCount_eq (r : ℝ) (h0 : 0 ≤ r) (e : ℕ) (he : e ≤ 250) (hlo : e = 0 ∨ (2 : ℝ) ^ ((e : ℤ) - 127) ≤ r)
    (hhi : r < (2 : ℝ) ^ ((e : ℤ) + 1 - 127)) : kerCount (r : EReal) = BitVec.ofNat 32 (e + 1) := by
  have hf : (fun k : Fin 256 => if (r : EReal) < Ideal.ofBits .f32 (pat k) then 0#32 else 1#32)
      = fun k : Fin 256 => (if e < k.val then 0#1 else 1#1 : BitVec 1).setWidth 32 := by
    funext k
    by_cases h : e < k.val
    · rw [if_pos ((below_iff r h0 e he hlo hhi k).2 h), if_pos h]; rfl
    · rw [if_neg (fun h' => h ((below_iff r h0 e he hlo hhi k).1 h')), if_neg h]; rfl
  unfold kerCount
  rw [hf, IndicatorCount.fold_addi_setWidth_eq_card, ← card_le ⟨e, by omega⟩]
  congr 2
  ext k
  simp only [Finset.mem_filter, Finset.mem_univ, true_and]
  by_cases h : e < k.val <;> simp [h]

/-! ## The exponent words -/

theorem scale_word : ∀ e : Fin 251, IntOp.shli ArithUnit.vector (IntOp.addi (expoOf (BitVec.ofNat 32 (e.val + 1))) 127#32) 23#32
    = BitVec.ofNat 32 ((if e.val = 0 then 127 else e.val + 1) * 2 ^ 23) := by
  unfold expoOf; decide +kernel

theorem inv_word : ∀ e : Fin 251,
    IntOp.shli ArithUnit.vector (IntOp.addi (IntOp.subi 0#32 (expoOf (BitVec.ofNat 32 (e.val + 1)))) 127#32) 23#32
    = BitVec.ofNat 32 ((if e.val = 0 then 127 else 253 - e.val) * 2 ^ 23) := by
  unfold expoOf; decide +kernel

/-- The exponent's value: zero below the least normal number, else `e - 126` for the biased exponent `e`. -/
def expoVal (e : ℕ) : ℤ := if e = 0 then 0 else (e : ℤ) - 126

theorem kerScale_eq (e : ℕ) (he : e ≤ 250) :
    kerScale (expoOf (BitVec.ofNat 32 (e + 1))) = (((2 : ℝ) ^ expoVal e : ℝ) : EReal) := by
  unfold kerScale expoVal
  rw [scale_word ⟨e, by omega⟩, ofBits_pow _ (by split <;> omega) (by split <;> omega)]
  by_cases h : e = 0
  · simp [h]
  · simp only [h, if_false]; push_cast; congr 2; ring

theorem kerInv_eq (e : ℕ) (he : e ≤ 250) :
    kerInv (expoOf (BitVec.ofNat 32 (e + 1))) = (((2 : ℝ) ^ (-expoVal e) : ℝ) : EReal) := by
  unfold kerInv expoVal
  rw [inv_word ⟨e, by omega⟩, ofBits_pow _ (by show 1 ≤ (if e = 0 then 127 else 253 - e); split <;> omega)
    (by show (if e = 0 then 127 else 253 - e) ≤ 254; split <;> omega)]
  by_cases h : e = 0
  · simp [h]
  · simp only [h, if_false]; congr 2; omega

/-- The reference's exponent, on the same cases. -/
theorem refExpo_eq (a q : ℝ) (hq : Ideal.ofBits .f32 0x3B124925#32 = (q : EReal)) (hq0 : 0 < q) (e : ℕ)
    (hlo : e = 0 ∨ (2 : ℝ) ^ ((e : ℤ) - 127) ≤ a * q) (hhi : a * q < (2 : ℝ) ^ ((e : ℤ) + 1 - 127)) :
    refExpo (a : EReal) = (((expoVal e : ℤ) : ℝ) : EReal) := by
  unfold refExpo expoVal
  rw [hq, ← EReal.coe_mul, ofBits_least, ofBits_two, ofBits_one, Ideal.ofBits_zero_f32]
  by_cases h : e = 0
  · have hb : ((a * q : ℝ) : EReal) < (((2 : ℝ) ^ (-126 : ℤ) : ℝ) : EReal) := by
      rw [EReal.coe_lt_coe_iff]; subst h; norm_num at hhi ⊢; exact hhi
    rw [if_pos hb, ite_self, if_pos h]; simp
  · have hlo := hlo.resolve_left h
    have hpos : 0 < a * q := lt_of_lt_of_le (by positivity) hlo
    have ha : (a : EReal) ≠ 0 := by
      intro h0
      have : a = 0 := by exact_mod_cast h0
      rw [this, zero_mul] at hpos; exact lt_irrefl _ hpos
    have hb : ¬ ((a * q : ℝ) : EReal) < (((2 : ℝ) ^ (-126 : ℤ) : ℝ) : EReal) := by
      rw [EReal.coe_lt_coe_iff, not_lt]
      exact le_trans (zpow_le_zpow_right₀ (by norm_num) (by omega)) hlo
    rw [if_neg ha, if_neg hb, if_neg h, Ideal.log_coe, if_neg (not_le.2 hpos), Ideal.log_coe, if_neg (by norm_num),
      Ideal.div_coe (Real.log_pos (by norm_num)).ne', ← EReal.coe_mul]
    have hfl : ⌊Real.log (a * q) * (1 / Real.log 2)⌋ = (e : ℤ) - 127 := by
      have hl : 0 < Real.log 2 := Real.log_pos (by norm_num)
      rw [mul_one_div, Int.floor_eq_iff]
      constructor
      · rw [le_div_iff₀ hl, ← Real.log_zpow]
        exact Real.log_le_log (by positivity) hlo
      · rw [div_lt_iff₀ hl]
        have := Real.log_lt_log hpos hhi
        rw [Real.log_zpow] at this
        push_cast at this ⊢
        linarith
    show (((⌊Real.log (a * q) * (1 / Real.log 2)⌋ : ℤ) : ℝ) : EReal) + ((1 : ℝ) : EReal) = _
    rw [hfl, ← EReal.coe_add]
    congr 1; push_cast; ring

/-- Each real `v < 2^120`, `v ≥ 0`, has its biased exponent. -/
theorem exists_biased (v : ℝ) (h0 : 0 ≤ v) (h1 : v < (2 : ℝ) ^ (120 : ℤ)) :
    ∃ e : ℕ, e ≤ 250 ∧ (e = 0 ∨ (2 : ℝ) ^ ((e : ℤ) - 127) ≤ v) ∧ v < (2 : ℝ) ^ ((e : ℤ) + 1 - 127) := by
  rcases lt_or_ge v ((2 : ℝ) ^ (-126 : ℤ)) with h | h
  · exact ⟨0, by omega, .inl rfl, by norm_num at h ⊢; exact h⟩
  · have hpos : 0 < v := lt_of_lt_of_le (by positivity) h
    obtain ⟨n, hn1, hn2⟩ := exists_mem_Ico_zpow (x := v) (y := (2 : ℝ)) hpos (by norm_num)
    have a1 : (-126 : ℤ) < n + 1 := (zpow_lt_zpow_iff_right₀ (by norm_num : (1 : ℝ) < 2)).1 (lt_of_le_of_lt h hn2)
    have a2 : n < 120 := (zpow_lt_zpow_iff_right₀ (by norm_num : (1 : ℝ) < 2)).1 (lt_of_le_of_lt hn1 h1)
    refine ⟨(n + 127).toNat, by omega, .inr ?_, ?_⟩
    · rw [show (((n + 127).toNat : ℤ) - 127) = n from by omega]; exact hn1
    · rw [show (((n + 127).toNat : ℤ) + 1 - 127) = n + 1 from by omega]; exact hn2

/-- THE EXPONENT: on a finite row maximum the kernel's patterns read the reference's powers of two. -/
theorem scale_agree (a : ℝ) (h0 : 0 ≤ a) (h1 : a < (2 : ℝ) ^ (128 : ℤ)) :
    kerScale (kerExpo (a : EReal)) = Ideal.exp2 (refExpo (a : EReal))
    ∧ kerInv (kerExpo (a : EReal)) = Ideal.exp2 (Ideal.ofBits .f32 0x00000000#32 - refExpo (a : EReal)) := by
  obtain ⟨q, hq, hq0, hq1⟩ := ofBits_mult
  have hv : a * q < (2 : ℝ) ^ (120 : ℤ) := by
    have : (2 : ℝ) ^ (120 : ℤ) = (2 : ℝ) ^ (128 : ℤ) * (2 : ℝ) ^ (-8 : ℤ) := by
      rw [← zpow_add₀ (by norm_num)]; norm_num
    rw [this]
    exact mul_lt_mul'' h1 hq1 h0 hq0.le
  obtain ⟨e, he, hlo, hhi⟩ := exists_biased (a * q) (mul_nonneg h0 hq0.le) hv
  have hc : kerExpo (a : EReal) = expoOf (BitVec.ofNat 32 (e + 1)) := by
    unfold kerExpo
    rw [hq, ← EReal.coe_mul, kerCount_eq (a * q) (mul_nonneg h0 hq0.le) e he hlo hhi]
  rw [hc, kerScale_eq e he, kerInv_eq e he, refExpo_eq a q hq hq0 e hlo hhi, Ideal.ofBits_zero_f32]
  constructor
  · rw [Ideal.exp2_coe]
    exact congrArg (fun r : ℝ => (r : EReal)) (Real.rpow_intCast 2 (expoVal e)).symm
  · rw [zero_sub, ← EReal.coe_neg, Ideal.exp2_coe, ← Int.cast_neg]
    exact congrArg (fun r : ℝ => (r : EReal)) (Real.rpow_intCast 2 (-expoVal e)).symm

end Cert.Exponent

end
-- ==== Proof.Row.lean ====
/- What both programs do to one row, on scalars: the row's largest magnitude and the code of one element. -/
module

public import proofs.«01_k».proof.Proof.Exponent

@[expose] public section

set_option maxRecDepth 16384

noncomputable section

namespace Cert.Row

open Idealize.ShloMosaic Cert.Exponent

/-- The largest magnitude of a row. -/
def rowMax (f : Fin 18944 → EReal) : EReal := Finset.fold max ⊥ (fun k => max (f k) (-f k)) Finset.univ

/-- An element times the inverse scale, clipped to the codes' range. -/
def clip (x s : EReal) : EReal := min (Ideal.ofBits .f32 0x43E00000#32) (max (Ideal.ofBits .f32 0xC3E00000#32) (x * s))

theorem ofBits_bf16 (b : BitVec 16) : Ideal.ofBits .bf16 b = Ideal.ieee 8 7 b := rfl

theorem bot_bf16 : Ideal.ofBits .bf16 0xFF80#16 = ⊥ := by
  rw [ofBits_bf16]
  unfold Ideal.ieee
  have f1 : ((0xFF80#16 : BitVec 16).extractLsb' (8 + 7) 1 == 1#1) = true := by decide
  have f2 : ((0xFF80#16 : BitVec 16).extractLsb' 7 8).toNat = 255 := by decide
  have f3 : ((0xFF80#16 : BitVec 16).extractLsb' 0 7).toNat = 0 := by decide
  simp [f1, f2, f3]

theorem bot_f32 : Ideal.ofBits .f32 0xFF800000#32 = ⊥ := by
  rw [ofBits_f32]
  unfold Ideal.ieee
  have f1 : ((0xFF800000#32 : BitVec 32).extractLsb' (8 + 23) 1 == 1#1) = true := by decide
  have f2 : ((0xFF800000#32 : BitVec 32).extractLsb' 23 8).toNat = 255 := by decide
  have f3 : ((0xFF800000#32 : BitVec 32).extractLsb' 0 23).toNat = 0 := by decide
  simp [f1, f2, f3]

/-- The largest finite bf16 is a real below `2^128`. -/
theorem bound_bf16 : ∃ b : ℝ, Ideal.ofBits .bf16 0x7F7F#16 = (b : EReal) ∧ b < (2 : ℝ) ^ (128 : ℤ) := by
  refine ⟨(2 ^ 7 + 127 : ℝ) * 2 ^ (120 : ℤ), ?_, by norm_num⟩
  rw [ofBits_bf16]
  unfold Ideal.ieee
  have f1 : ((0x7F7F#16 : BitVec 16).extractLsb' (8 + 7) 1 == 1#1) = false := by decide
  have f2 : ((0x7F7F#16 : BitVec 16).extractLsb' 7 8).toNat = 254 := by decide
  have f3 : ((0x7F7F#16 : BitVec 16).extractLsb' 0 7).toNat = 127 := by decide
  simp only [f1, f2, f3]
  rw [if_neg (by omega), if_neg (by omega)]
  refine congrArg (fun r : ℝ => (r : EReal)) ?_
  norm_num

/-- On a row of bounded elements the largest magnitude is a real in `[0, 2^128)`. -/
theorem rowMax_real (f : Fin 18944 → EReal) (hf : ∀ k, max (f k) (-f k) ≤ Ideal.ofBits .bf16 0x7F7F#16) :
    ∃ a : ℝ, rowMax f = (a : EReal) ∧ 0 ≤ a ∧ a < (2 : ℝ) ^ (128 : ℤ) := by
  obtain ⟨b, hb, hb1⟩ := bound_bf16
  have hle : rowMax f ≤ (b : EReal) := by
    unfold rowMax
    rw [Finset.fold_max_le]
    exact ⟨bot_le, fun k _ => hb ▸ hf k⟩
  have hge : (0 : EReal) ≤ rowMax f := by
    unfold rowMax
    rw [Finset.le_fold_max]
    refine .inr ⟨⟨0, by omega⟩, Finset.mem_univ _, ?_⟩
    rcases le_total 0 (f ⟨0, by omega⟩) with h | h
    · exact le_max_of_le_left h
    · exact le_max_of_le_right (EReal.neg_nonneg.2 h)
  have h1 : rowMax f ≠ ⊤ := fun h => by rw [h] at hle; exact absurd hle (not_le.2 (EReal.coe_lt_top b))
  have h2 : rowMax f ≠ ⊥ := fun h => by rw [h] at hge; exact absurd hge (not_le.2 EReal.bot_lt_zero)
  refine ⟨(rowMax f).toReal, (EReal.coe_toReal h1 h2).symm, ?_, ?_⟩
  · rw [← EReal.coe_toReal h1 h2] at hge; exact_mod_cast hge
  · rw [← EReal.coe_toReal h1 h2, EReal.coe_le_coe_iff] at hle; exact lt_of_le_of_lt hle hb1

end Cert.Row

end
-- ==== Proof.KernelPoint.lean ====
/- What one block of each of the kernel's two calls computes, element by element, at the extended reals. -/
module

public import proofs.«01_k».proof.Proof.Gen.KernelIdeal.Frame
public import proofs.«01_k».proof.Proof.Row
public import Idealize.ShloMosaic.Lib.Pointwise

@[expose] public section

set_option maxRecDepth 16384

noncomputable section

namespace Cert.KernelIdeal.Point

open Idealize.ShloMosaic Idealize.SL.Sem
open Cert.KernelIdeal Cert.KernelIdeal.Gen Cert.Exponent Cert.Row

/-- The largest magnitude of each row of a block. -/
def amax (x : FVec Ideal S128x18944 .bf16) : FVec Ideal S128x1 .bf16 :=
  shapeCast S128x1 (multiReduction .maximumf [1] S128 (absf x) 0xFF80#16 reduces_S128x18944_S128 (.inr rfl) rfl) shapeCasts_S128_S128x1

theorem amax_at (x : FVec Ideal S128x18944 .bf16) (r : Fin 128) (q : Fin 1) :
    amax x (ix2 r q) = rowMax fun k => x (ix2 r k) := by
  unfold rowMax
  rw [← bot_bf16]
  pointwise [amax]
  rfl

/-- How many powers of two are not above each row's value. -/
def count (v : FVec Ideal S128x1 .f32) : IVec S128x1 32 :=
  shapeCast S128x1 (multiReductionI .add [1] S128 (select (cmpf .olt (broadcastTo S128x256 v broadcasts_S128x1_S128x256)
    (broadcastTo S128x256 (bitcastToFloat .f32 (shli (addi (subi (iota .tc S1x256 32 [1] iota_S1x256_d1_w32) (broadcast S1x256 127#32))
      (broadcast S1x256 127#32)) (broadcast S1x256 23#32))) broadcasts_S1x256_S128x256)) (broadcast S128x256 0#32) (broadcast S128x256 1#32))
    0#32 reduces_S128x256_S128 rfl) shapeCasts_S128_S128x1

theorem count_at (v : FVec Ideal S128x1 .f32) (r : Fin 128) (q : Fin 1) :
    count v (ix2 r q) = kerCount (v (ix2 r 0)) := by
  unfold kerCount pat
  pointwise [count]

/-- The exponent words from the counts. -/
def expo (n : IVec S128x1 32) : IVec S128x1 32 :=
  select (cmpi .eq (subi n (broadcast S128x1 1#32)) (broadcast S128x1 0#32)) (broadcast S128x1 0#32)
    (subi (subi n (broadcast S128x1 1#32)) (broadcast S128x1 126#32))

theorem expo_at (n : IVec S128x1 32) (j : S128x1.Idx) : expo n j = expoOf (n j) := rfl

theorem pay4 (x : Vec Ideal S128x18944 .bf16) : k0_pay4 x = x := by
  funext j; idx_vars j; pointwise [k0_pay4]

theorem pay5 (x : Vec Ideal S128x18944 .bf16) :
    k0_pay5 x = expo (count (mulf (extf .f32 (amax (k0_pay4 x)) bitsLt_bf16_f32) (broadcast S128x1 (Scalar.ofBits .f32 0x3B124925#32)))) := rfl

theorem scaled_at (v : FVec Ideal S128x1 .bf16) (j : S128x1.Idx) :
    mulf (extf .f32 v bitsLt_bf16_f32) (broadcast S128x1 (Scalar.ofBits .f32 0x3B124925#32)) j
      = v j * Ideal.ofBits .f32 0x3B124925#32 := rfl

/-- The exponent word of a row. -/
theorem pay5_at (x : Vec Ideal S128x18944 .bf16) (r : Fin 128) (q : Fin 1) :
    k0_pay5 x (ix2 r q) = kerExpo (rowMax fun k => x (ix2 r k)) := by
  rw [pay5, expo_at, count_at, pay4, scaled_at, amax_at]
  unfold kerExpo
  with_reducible rfl

theorem scale_at (e : IVec S128x1 32) (j : S128x1.Idx) :
    bitcastToFloat (F := Ideal) .f32 (shli (addi e (broadcast S128x1 127#32)) (broadcast S128x1 23#32)) j = kerScale (e j) := rfl

theorem pay6 (x : Vec Ideal S128x18944 .bf16) :
    k0_pay6 x = bitcastToFloat .f32 (shli (addi (k0_pay5 x) (broadcast S128x1 127#32)) (broadcast S128x1 23#32)) := rfl

/-- The scale of a row. -/
theorem pay6_at (x : Vec Ideal S128x18944 .bf16) (r : Fin 128) (q : Fin 1) :
    k0_pay6 x (ix2 r q) = kerScale (kerExpo (rowMax fun k => x (ix2 r k))) := by
  rw [pay6, scale_at, pay5_at]

/-- The code of an element. -/
theorem pay1_at (x : FVec Ideal S128x18944 .bf16) (e : IVec S128x1 32) (r : Fin 128) (k : Fin 18944) :
    k0_pay1 x e k0_pay7 (ix2 r k) = clip (x (ix2 r k)) (kerInv (e (ix2 r 0))) := by
  unfold clip kerInv
  pointwise [k0_pay1, k0_pay7]

/-- The first projection's block: `a₀ᵀ · xᵀ`. -/
theorem pay2_at (x : FVec Ideal S128x18944 .bf16) (a : Vec Ideal S1x16x18944 .bf16) (q : Fin 1) (k : Fin 16) (r : Fin 128) :
    k0_pay2 x a (ix3 q k r) = ∑ i : Fin 18944, a (ix3 0 k i) * x (ix2 r i) := by
  pointwise [k0_pay2]

theorem pay3_at (x : FVec Ideal S128x18944 .bf16) (a : Vec Ideal S1x16x18944 .bf16) (q : Fin 1) (k : Fin 16) (r : Fin 128) :
    k0_pay3 x a (ix3 q k r) = ∑ i : Fin 18944, a (ix3 0 k i) * x (ix2 r i) := by
  pointwise [k0_pay3]

/-- A block of the result. -/
theorem lin_at (x : Vec Ideal S512x18944 .fp8e4m3) (w : Vec Ideal S18944x256 .fp8e4m3) (t : Vec Ideal S1x16x512 .bf16)
    (b : Vec Ideal S1x16x256 .bf16) (s : Vec Ideal S512x1 .f32) (ws : Vec Ideal S1x256 .f32) (r : Fin 512) (o : Fin 256) :
    k1_pay1 x w t b s ws (ix2 r o)
      = (∑ k : Fin 18944, x (ix2 r k) * w (ix2 k o)) * s (ix2 r 0) * ws (ix2 0 o)
        + Ideal.ofBits .f32 0x40000000#32 * ∑ k : Fin 16, t (ix3 0 k r) * b (ix3 0 k o) := by
  pointwise [k1_pay1]

end Cert.KernelIdeal.Point

end
-- ==== Proof.KernelQuant.lean ====
/- What the three result arrays of the kernel's first call hold, for any contents of its two argument arrays. -/
module

public import proofs.«01_k».proof.Proof.KernelPoint
public import Idealize.ShloMosaic.Lib.Pipeline.ValueKit

@[expose] public section

set_option maxRecDepth 16384

noncomputable section

namespace Cert.KernelIdeal.Quant

open Idealize.ShloMosaic Idealize.ShloMosaic.TcCoe Idealize.SL.Sem
open Idealize.ShloMosaic.Pipeline (Dat)
open Cert.KernelIdeal Cert.KernelIdeal.Gen Cert.KernelIdeal.Point Cert.Exponent Cert.Row

/-- The exponent word of row `r`. -/
def rowExpo (X : Vec Ideal S2048x18944 .bf16) (r : Fin 2048) : BitVec 32 := kerExpo (rowMax fun k => X (ix2 r k))

def codesOf (X : Vec Ideal S2048x18944 .bf16) : Vec Ideal S2048x18944 .fp8e4m3 :=
  fun j => clip (X (ix2 (j 0) (j 1))) (kerInv (rowExpo X (j 0)))

def scaleOf (X : Vec Ideal S2048x18944 .bf16) : Vec Ideal S2048x1 .f32 := fun j => kerScale (rowExpo X (j 0))

def lowOf (X : Vec Ideal S2048x18944 .bf16) (A : Vec Ideal S2x16x18944 .bf16) : Vec Ideal S2x16x2048 .bf16 :=
  fun j => ∑ i : Fin 18944, A (ix3 (j 0) (j 1) i) * X (ix2 (j 2) i)

theorem codesOf_at (X : Vec Ideal S2048x18944 .bf16) (r : Fin 2048) (k : Fin 18944) :
    codesOf X (ix2 r k) = clip (X (ix2 r k)) (kerInv (kerExpo (rowMax fun k => X (ix2 r k)))) := rfl

theorem scaleOf_at (X : Vec Ideal S2048x18944 .bf16) (r : Fin 2048) (q : Fin 1) :
    scaleOf X (ix2 r q) = kerScale (kerExpo (rowMax fun k => X (ix2 r k))) := rfl

theorem lowOf_at (X : Vec Ideal S2048x18944 .bf16) (A : Vec Ideal S2x16x18944 .bf16) (n : Fin 2) (k : Fin 16) (r : Fin 2048) :
    lowOf X A (ix3 n k r) = ∑ i : Fin 18944, A (ix3 n k i) * X (ix2 r i) := rfl

variable (V : (c : Dev nD) → (b : Ref sig .tc) → Buf (Elt Ideal) ((c : Thread nD τ).loc b))

theorem idx : ∀ t : Fin cfg0.N, win0_0.index t = ![t.val, 0] ∧ win0_1.index t = ![0, 0, 0] ∧ win0_2.index t = ![t.val, 0]
    ∧ win0_3.index t = ![t.val, 0] ∧ win0_4.index t = ![0, 0, t.val] := (by decide +kernel : ∀ t : Fin grid0.N, _)

/-- Row `r` of point `t`'s block of the argument. -/
theorem x_at (c : Dev nD) (t : Fin cfg0.N) (r : Fin 128) (k : Fin 18944) (r' : Fin 2048) (h : (r' : ℕ) = t.val * 128 + r) :
    (iblk0 V c 0 t : Vec Ideal S128x18944 .bf16) (ix2 r k) = V c main_v0 (ix2 r' k) := by
  blk_point [iblk0, idx t]

/-- The second argument's block is the whole array. -/
theorem a_at (c : Dev nD) (t : Fin cfg0.N) (n n' : Fin 2) (k k' : Fin 16) (i : Fin 18944) (hn : (n : ℕ) = n') (hk : (k : ℕ) = k') :
    (iblk0 V c 1 t : Vec Ideal S2x16x18944 .bf16) (ix3 n k i) = V c main_v1 (ix3 n' k' i) := by
  blk_point [iblk0, idx t]

theorem lda_0 (A : Vec Ideal S2x16x18944 .bf16) (k : Fin 16) (i : Fin 18944) :
    View.ld (Val := Elt Ideal) (e' := .bf16) A r0_2 (ix3 0 k i) = A (ix3 0 k i) := by
  exact View.ld_unit_apply_of A _ _ _ _ _ fun a => by
    match a with
    | 0 => rfl
    | 1 => exact (Nat.zero_add _).symm
    | 2 => exact (Nat.zero_add _).symm

theorem lda_1 (A : Vec Ideal S2x16x18944 .bf16) (k : Fin 16) (i : Fin 18944) :
    View.ld (Val := Elt Ideal) (e' := .bf16) A r0_4 (ix3 0 k i) = A (ix3 1 k i) := by
  exact View.ld_unit_apply_of A _ _ _ _ _ fun a => by
    match a with
    | 0 => rfl
    | 1 => exact (Nat.zero_add _).symm
    | 2 => exact (Nat.zero_add _).symm

theorem codes_point (B : Vec Ideal S128x18944 .bf16) (X : Vec Ideal S2048x18944 .bf16) (y : S128x18944.Idx) (j : S2048x18944.Idx)
    (hB : ∀ k, B (ix2 (y 0) k) = X (ix2 (j 0) k)) (h1 : y 1 = j 1) :
    k0_pay1 (F := Ideal) B (k0_pay5 B) k0_pay7 y = codesOf X j := by
  obtain ⟨r, q, rfl⟩ : ∃ (r : Fin 128) (q : Fin 18944), y = ix2 r q := ⟨y 0, y 1, eq_ix2 y⟩
  obtain ⟨r', q', rfl⟩ : ∃ (r : Fin 2048) (q : Fin 18944), j = ix2 r q := ⟨j 0, j 1, eq_ix2 j⟩
  have hB : ∀ k, B (ix2 r k) = X (ix2 r' k) := hB
  have h1 : q = q' := h1
  rw [pay1_at, pay5_at, codesOf_at]
  simp only [hB, h1]

theorem scale_point (B : Vec Ideal S128x18944 .bf16) (X : Vec Ideal S2048x18944 .bf16) (y : S128x1.Idx) (j : S2048x1.Idx)
    (hB : ∀ k, B (ix2 (y 0) k) = X (ix2 (j 0) k)) : k0_pay6 B y = scaleOf X j := by
  obtain ⟨r, q, rfl⟩ : ∃ (r : Fin 128) (q : Fin 1), y = ix2 r q := ⟨y 0, y 1, eq_ix2 y⟩
  obtain ⟨r', q', rfl⟩ : ∃ (r : Fin 2048) (q : Fin 1), j = ix2 r q := ⟨j 0, j 1, eq_ix2 j⟩
  have hB : ∀ k, B (ix2 r k) = X (ix2 r' k) := hB
  rw [pay6_at, scaleOf_at]
  simp only [hB]

theorem pay8 (B : Vec Ideal S128x18944 .bf16) (A : Vec Ideal S2x16x18944 .bf16) : k0_pay8 B A = B := by
  unfold k0_pay8
  rw [pay4]
  frame_out

theorem low_point (B : Vec Ideal S128x18944 .bf16) (A : Vec Ideal S1x16x18944 .bf16) (A' : Vec Ideal S2x16x18944 .bf16)
    (X : Vec Ideal S2048x18944 .bf16) (y : S1x16x128.Idx) (j : S2x16x2048.Idx) (hB : ∀ k, B (ix2 (y 2) k) = X (ix2 (j 2) k))
    (hA : ∀ k, A (ix3 0 (y 1) k) = A' (ix3 (j 0) (j 1) k)) :
    k0_pay2 (F := Ideal) B A y = lowOf X A' j ∧ k0_pay3 (F := Ideal) B A y = lowOf X A' j := by
  obtain ⟨q, k, r, rfl⟩ : ∃ (q : Fin 1) (k : Fin 16) (r : Fin 128), y = ix3 q k r := ⟨y 0, y 1, y 2, eq_ix3 y⟩
  obtain ⟨q', k', r', rfl⟩ : ∃ (q : Fin 2) (k : Fin 16) (r : Fin 2048), j = ix3 q k r := ⟨j 0, j 1, j 2, eq_ix3 j⟩
  have hB : ∀ i, B (ix2 r i) = X (ix2 r' i) := hB
  have hA : ∀ i, A (ix3 0 k i) = A' (ix3 q' k' i) := hA
  rw [pay2_at, pay3_at, lowOf_at]
  simp only [hB, hA, and_self]

theorem codes_arr (c : Dev nD) : (dat0 V c).arrAt 2 cfg0.N = codesOf (V c main_v0) := by
  refine (dat0 V c).arrAt_eq_of_covers 2 _ (by decide +kernel) fun t _ y => ?_
  blk_simp; rw [after0_2]; frame_out
  rw [show k0_pay8 (iblk0 V c 0 t) (iblk0 V c 1 t) = iblk0 V c 0 t from pay8 _ _]
  exact codes_point _ _ _ _ (fun k => x_at V c t _ k _ (by blk_simp [idx t])) (Fin.ext (by blk_simp [idx t]))

theorem scale_arr (c : Dev nD) : (dat0 V c).arrAt 3 cfg0.N = scaleOf (V c main_v0) := by
  refine (dat0 V c).arrAt_eq_of_covers 3 _ (by decide +kernel) fun t _ y => ?_
  blk_simp; rw [after0_3]; frame_out
  exact scale_point _ _ _ _ (fun k => x_at V c t _ k _ (by blk_simp [idx t]))

theorem low_arr (c : Dev nD) : (dat0 V c).arrAt 4 cfg0.N = lowOf (V c main_v0) (V c main_v1) := by
  refine (dat0 V c).arrAt_eq_of_covers 4 _ (by decide +kernel) fun t _ y => ?_
  blk_simp; rw [after0_4]
  canon_tiles x h
  · rw [pay8]
    exact (low_point _ _ _ _ x _ (fun k => x_at V c t _ k _ (by blk_simp [idx t]; try omega))
      (fun k => (lda_1 _ _ _).trans (a_at V c t _ _ _ _ k (by blk_simp [idx t]; try omega) (by blk_simp [idx t]; try omega)))).2
  · rw [pay8]
    exact (low_point _ _ _ _ x _ (fun k => x_at V c t _ k _ (by blk_simp [idx t]; try omega))
      (fun k => (lda_0 _ _ _).trans (a_at V c t _ _ _ _ k (by blk_simp [idx t]; try omega) (by blk_simp [idx t]; try omega)))).1

end Cert.KernelIdeal.Quant

end
-- ==== Proof.KernelLinear.lean ====
/- What the result array of the kernel's second call holds, for any contents of its argument arrays. -/
module

public import proofs.«01_k».proof.Proof.KernelPoint
public import Idealize.ShloMosaic.Lib.Pipeline.ValueKit

@[expose] public section

set_option maxRecDepth 16384

noncomputable section

namespace Cert.KernelIdeal.Linear

open Idealize.ShloMosaic Idealize.ShloMosaic.TcCoe Idealize.SL.Sem
open Idealize.ShloMosaic.Pipeline (Dat)
open Cert.KernelIdeal Cert.KernelIdeal.Gen Cert.KernelIdeal.Point

/-- Column `o` of a row of the result; slice `n` of the low-rank factors holds the columns `n * 1792 + p`. -/
def linOf (Q : Vec Ideal S2048x18944 .fp8e4m3) (W : Vec Ideal S18944x3584 .fp8e4m3) (S : Vec Ideal S2048x1 .f32)
    (U : Vec Ideal S1x3584 .f32) (T : Vec Ideal S2x16x2048 .bf16) (B : Vec Ideal S2x16x1792 .bf16) (r : Fin 2048) (o : Fin 3584)
    (n : Fin 2) (p : Fin 1792) : EReal :=
  (∑ k : Fin 18944, Q (ix2 r k) * W (ix2 k o)) * S (ix2 r 0) * U (ix2 0 o)
    + Ideal.ofBits .f32 0x40000000#32 * ∑ k : Fin 16, T (ix3 n k r) * B (ix3 n k p)

theorem linOf_def (Q : Vec Ideal S2048x18944 .fp8e4m3) (W : Vec Ideal S18944x3584 .fp8e4m3) (S : Vec Ideal S2048x1 .f32)
    (U : Vec Ideal S1x3584 .f32) (T : Vec Ideal S2x16x2048 .bf16) (B : Vec Ideal S2x16x1792 .bf16) (r : Fin 2048) (o : Fin 3584)
    (n : Fin 2) (p : Fin 1792) : linOf Q W S U T B r o n p = (∑ k : Fin 18944, Q (ix2 r k) * W (ix2 k o)) * S (ix2 r 0) * U (ix2 0 o)
    + Ideal.ofBits .f32 0x40000000#32 * ∑ k : Fin 16, T (ix3 n k r) * B (ix3 n k p) := rfl

def linAt (Q : Vec Ideal S2048x18944 .fp8e4m3) (W : Vec Ideal S18944x3584 .fp8e4m3) (S : Vec Ideal S2048x1 .f32)
    (U : Vec Ideal S1x3584 .f32) (T : Vec Ideal S2x16x2048 .bf16) (B : Vec Ideal S2x16x1792 .bf16) (r : Fin 2048) (o : Fin 3584) : EReal :=
  linOf Q W S U T B r o ⟨o.val / 1792, by omega⟩ ⟨o.val % 1792, by omega⟩

def linArr (Q : Vec Ideal S2048x18944 .fp8e4m3) (W : Vec Ideal S18944x3584 .fp8e4m3) (S : Vec Ideal S2048x1 .f32)
    (U : Vec Ideal S1x3584 .f32) (T : Vec Ideal S2x16x2048 .bf16) (B : Vec Ideal S2x16x1792 .bf16) : Vec Ideal S2048x3584 .bf16 :=
  fun j => linAt Q W S U T B (j 0) (j 1)

theorem linArr_at (Q : Vec Ideal S2048x18944 .fp8e4m3) (W : Vec Ideal S18944x3584 .fp8e4m3) (S : Vec Ideal S2048x1 .f32)
    (U : Vec Ideal S1x3584 .f32) (T : Vec Ideal S2x16x2048 .bf16) (B : Vec Ideal S2x16x1792 .bf16) (r : Fin 2048) (o : Fin 3584) :
    linArr Q W S U T B (ix2 r o) = linAt Q W S U T B r o := rfl

variable (V : (c : Dev nD) → (b : Ref sig .tc) → Buf (Elt Ideal) ((c : Thread nD τ).loc b))

theorem idx : ∀ t : Fin cfg1.N, win1_0.index t = ![t.val / 14, 0] ∧ win1_1.index t = ![0, t.val % 14] ∧ win1_2.index t = ![t.val / 14, 0]
    ∧ win1_3.index t = ![0, t.val % 14] ∧ win1_4.index t = ![t.val % 14 / 7, 0, t.val / 14]
    ∧ win1_5.index t = ![t.val % 14 / 7, 0, t.val % 14 % 7] ∧ win1_6.index t = ![t.val / 14, t.val % 14] :=
  (by decide +kernel : ∀ t : Fin grid1.N, _)

theorem q_at (c : Dev nD) (t : Fin cfg1.N) (r : Fin 512) (k : Fin 18944) (r' : Fin 2048) (h : (r' : ℕ) = t.val / 14 * 512 + r) :
    (iblk1 V c 0 t : Vec Ideal S512x18944 .fp8e4m3) (ix2 r k) = V c main_v2_0 (ix2 r' k) := by
  blk_point [iblk1, idx t]

theorem w_at (c : Dev nD) (t : Fin cfg1.N) (k : Fin 18944) (o : Fin 256) (o' : Fin 3584) (h : (o' : ℕ) = t.val % 14 * 256 + o) :
    (iblk1 V c 1 t : Vec Ideal S18944x256 .fp8e4m3) (ix2 k o) = V c main_arg1 (ix2 k o') := by
  blk_point [iblk1, idx t]

theorem s_at (c : Dev nD) (t : Fin cfg1.N) (r : Fin 512) (r' : Fin 2048) (h : (r' : ℕ) = t.val / 14 * 512 + r) :
    (iblk1 V c 2 t : Vec Ideal S512x1 .f32) (ix2 r 0) = V c main_v2_1 (ix2 r' 0) := by
  blk_point [iblk1, idx t]

theorem u_at (c : Dev nD) (t : Fin cfg1.N) (o : Fin 256) (o' : Fin 3584) (h : (o' : ℕ) = t.val % 14 * 256 + o) :
    (iblk1 V c 3 t : Vec Ideal S1x256 .f32) (ix2 0 o) = V c main_v3 (ix2 0 o') := by
  blk_point [iblk1, idx t]

theorem t_at (c : Dev nD) (t : Fin cfg1.N) (k : Fin 16) (r : Fin 512) (n : Fin 2) (r' : Fin 2048) (hn : (n : ℕ) = t.val % 14 / 7)
    (h : (r' : ℕ) = t.val / 14 * 512 + r) : (iblk1 V c 4 t : Vec Ideal S1x16x512 .bf16) (ix3 0 k r) = V c main_v2_2 (ix3 n k r') := by
  blk_point [iblk1, idx t]

theorem b_at (c : Dev nD) (t : Fin cfg1.N) (k : Fin 16) (o : Fin 256) (n : Fin 2) (p : Fin 1792) (hn : (n : ℕ) = t.val % 14 / 7)
    (h : (p : ℕ) = t.val % 14 % 7 * 256 + o) : (iblk1 V c 5 t : Vec Ideal S1x16x256 .bf16) (ix3 0 k o) = V c main_arg4 (ix3 n k p) := by
  blk_point [iblk1, idx t]

/-- A block's element in terms of the arrays it is cut from. -/
theorem lin_point (c : Dev nD) (t : Fin cfg1.N) (y : S512x256.Idx) (j : S2048x3584.Idx)
    (h0 : ((j 0 : Fin 2048) : ℕ) = t.val / 14 * 512 + (y 0 : Fin 512)) (h1 : ((j 1 : Fin 3584) : ℕ) = t.val % 14 * 256 + (y 1 : Fin 256)) :
    k1_pay1 (F := Ideal) (iblk1 V c 0 t) (iblk1 V c 1 t) (iblk1 V c 4 t) (iblk1 V c 5 t) (iblk1 V c 2 t) (iblk1 V c 3 t) y
      = linArr (V c main_v2_0) (V c main_arg1) (V c main_v2_1) (V c main_v3) (V c main_v2_2) (V c main_arg4) j := by
  obtain ⟨r, o, rfl⟩ : ∃ (r : Fin 512) (o : Fin 256), y = ix2 r o := ⟨y 0, y 1, eq_ix2 y⟩
  obtain ⟨r', o', rfl⟩ : ∃ (r : Fin 2048) (o : Fin 3584), j = ix2 r o := ⟨j 0, j 1, eq_ix2 j⟩
  have h0 : (r' : ℕ) = t.val / 14 * 512 + r := h0
  have h1 : (o' : ℕ) = t.val % 14 * 256 + o := h1
  rw [lin_at, linArr_at, linAt, linOf_def]
  have hn : (o' : ℕ) / 1792 = t.val % 14 / 7 := by omega
  have hp : (o' : ℕ) % 1792 = t.val % 14 % 7 * 256 + o := by omega
  simp only [q_at V c t r _ r' h0, w_at V c t _ o o' h1, s_at V c t r r' h0, u_at V c t o o' h1,
    t_at V c t _ r ⟨(o' : ℕ) / 1792, by omega⟩ r' hn h0, b_at V c t _ o ⟨(o' : ℕ) / 1792, by omega⟩ ⟨(o' : ℕ) % 1792, by omega⟩ hn hp]

theorem lin_arr (c : Dev nD) : (dat1 V c).arrAt 6 cfg1.N
    = linArr (V c main_v2_0) (V c main_arg1) (V c main_v2_1) (V c main_v3) (V c main_v2_2) (V c main_arg4) := by
  refine (dat1 V c).arrAt_eq_of_covers 6 _ (by decide +kernel) fun t _ y => ?_
  blk_simp; rw [after1_6]; frame_out
  exact lin_point V c t _ _ (by blk_simp [idx t]) (by blk_simp [idx t])

end Cert.KernelIdeal.Linear

end
-- ==== Proof.KernelRun.lean ====
/- The kernel's run with its results: from any memory with zero counters every execution of `@main` ends with the
   argument arrays as launched and the three result arrays at the contents of the last segment boundary (`Gen.W5`). -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of `@main` terminates with the results at `W5` and the arguments as launched. -/
theorem run : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_v6) = W5 m ρ c (Proc.devRef .tc main_v6)
      ∧ r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v5 (by decide)), h c _ (mem_uc main_v6 (by decide)), h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Gen

end
-- ==== Proof.KernelValue.lean ====
/- The kernel's three results as functions of its arguments, element by element. -/
module

public import proofs.«01_k».proof.Proof.KernelQuant
public import proofs.«01_k».proof.Proof.KernelLinear
public import proofs.«01_k».proof.Proof.KernelRun

@[expose] public section

set_option maxRecDepth 16384

noncomputable section

namespace Cert.KernelIdeal.Value

open Idealize.ShloMosaic Idealize.ShloMosaic.TcCoe Idealize.ShloMosaic.Tactic Idealize.SL.Sem
open Cert.KernelIdeal Cert.KernelIdeal.Gen Cert.KernelIdeal.Point Cert.KernelIdeal.Quant Cert.KernelIdeal.Linear Cert.Exponent Cert.Row

variable (m : (ℓ : Loc nD τ sig) → Buf (Elt Ideal) ℓ) (ρ : Dev nD → PrngReg)

/-! What the arrays hold between the calls. -/

theorem v0 (c : Dev nD) : V1 m ρ c main_v0 = shapeCast S2048x18944 (m ((c.tc : Thread nD τ).loc main_arg0) : Vec Ideal S8x256x18944 .bf16)
    shapeCasts_S8x256x18944_S2048x18944 := by
  unfold V1 W1; after_results; try rfl

theorem v1 (c : Dev nD) : V1 m ρ c main_v1 = transpose S2x16x18944 [0, 2, 1] (m ((c.tc : Thread nD τ).loc main_arg3) : Vec Ideal S2x18944x16 .bf16)
    transposes_S2x18944x16_S2x16x18944_0_2_1 := by
  unfold V1 W1; after_results; try rfl

theorem v2_0 (c : Dev nD) : V3 m ρ c main_v2_0 = codesOf (V1 m ρ c main_v0) :=
  (W3_of m ρ c main_v2_0 (by decide +kernel)).trans ((W2_arr m ρ c 2).trans (codes_arr (V1 m ρ) c))

theorem v2_1 (c : Dev nD) : V3 m ρ c main_v2_1 = scaleOf (V1 m ρ c main_v0) :=
  (W3_of m ρ c main_v2_1 (by decide +kernel)).trans ((W2_arr m ρ c 3).trans (scale_arr (V1 m ρ) c))

theorem v2_2 (c : Dev nD) : V3 m ρ c main_v2_2 = lowOf (V1 m ρ c main_v0) (V1 m ρ c main_v1) :=
  (W3_of m ρ c main_v2_2 (by decide +kernel)).trans ((W2_arr m ρ c 4).trans (low_arr (V1 m ρ) c))

theorem v3 (c : Dev nD) : V3 m ρ c main_v3 = shapeCast S1x3584 (m ((c.tc : Thread nD τ).loc main_arg2) : Vec Ideal S3584 .f32)
    shapeCasts_S3584_S1x3584 := by
  rw [← W2_args m ρ c main_arg2 (by decide +kernel)]
  unfold V3 W3; after_results; try rfl

theorem v4 (c : Dev nD) : W4 m ρ c (Proc.devRef .tc main_v4) = linArr (V3 m ρ c main_v2_0) (V3 m ρ c main_arg1) (V3 m ρ c main_v2_1)
    (V3 m ρ c main_v3) (V3 m ρ c main_v2_2) (V3 m ρ c main_arg4) := (W4_arr m ρ c 6).trans (lin_arr (V3 m ρ) c)

theorem v5 (c : Dev nD) : W5 m ρ c (Proc.devRef .tc main_v5) = shapeCast S8x256x3584 (W4 m ρ c (Proc.devRef .tc main_v4) : Vec Ideal S2048x3584 .bf16)
    shapeCasts_S2048x3584_S8x256x3584 := by
  unfold W5; after_results; try rfl

theorem v6 (c : Dev nD) : W5 m ρ c (Proc.devRef .tc main_v6) = shapeCast S8x256x18944 (W4 m ρ c (Proc.devRef .tc main_v2_0) : Vec Ideal S2048x18944 .fp8e4m3)
    shapeCasts_S2048x18944_S8x256x18944 := by
  unfold W5; after_results; try rfl

theorem v7 (c : Dev nD) : W5 m ρ c (Proc.devRef .tc main_v7) = shapeCast S8x256x1 (W4 m ρ c (Proc.devRef .tc main_v2_1) : Vec Ideal S2048x1 .f32)
    shapeCasts_S2048x1_S8x256x1 := by
  unfold W5; after_results; try rfl

theorem w4_0 (c : Dev nD) : W4 m ρ c (Proc.devRef .tc main_v2_0) = codesOf (V1 m ρ c main_v0) :=
  (W4_of m ρ c main_v2_0 (by decide +kernel)).trans (v2_0 m ρ c)

theorem w4_1 (c : Dev nD) : W4 m ρ c (Proc.devRef .tc main_v2_1) = scaleOf (V1 m ρ c main_v0) :=
  (W4_of m ρ c main_v2_1 (by decide +kernel)).trans (v2_1 m ρ c)

/-! The host's reshapes and its transpose at an index. -/

def row (b : Fin 8) (s : Fin 256) : Fin 2048 := ⟨b * 256 + s, by omega⟩

theorem x2_at (x : Vec Ideal S8x256x18944 .bf16) (b : Fin 8) (s : Fin 256) (k : Fin 18944) :
    shapeCast S2048x18944 x shapeCasts_S8x256x18944_S2048x18944 (ix2 (row b s) k) = x (ix3 b s k) := by
  unfold row
  pointwise
  blk_ext

theorem at_at (a : Vec Ideal S2x18944x16 .bf16) (n : Fin 2) (k : Fin 16) (i : Fin 18944) :
    transpose S2x16x18944 [0, 2, 1] a transposes_S2x18944x16_S2x16x18944_0_2_1 (ix3 n k i) = a (ix3 n i k) := by
  pointwise

theorem ws_at (u : Vec Ideal S3584 .f32) (o : Fin 3584) : shapeCast S1x3584 u shapeCasts_S3584_S1x3584 (ix2 0 o) = u (ix1 o) := by
  pointwise

theorem y_at (y : Vec Ideal S2048x3584 .bf16) (b : Fin 8) (s : Fin 256) (o : Fin 3584) :
    shapeCast S8x256x3584 y shapeCasts_S2048x3584_S8x256x3584 (ix3 b s o) = y (ix2 (row b s) o) := by
  unfold row
  pointwise

theorem codes_at (y : Vec Ideal S2048x18944 .fp8e4m3) (b : Fin 8) (s : Fin 256) (k : Fin 18944) :
    shapeCast S8x256x18944 y shapeCasts_S2048x18944_S8x256x18944 (ix3 b s k) = y (ix2 (row b s) k) := by
  unfold row
  pointwise

theorem scale_at (y : Vec Ideal S2048x1 .f32) (b : Fin 8) (s : Fin 256) (q : Fin 1) :
    shapeCast S8x256x1 y shapeCasts_S2048x1_S8x256x1 (ix3 b s q) = y (ix2 (row b s) 0) := by
  unfold row
  pointwise

/-! The results. -/

/-- The exponent word of row `(b, s)` of the argument. -/
def expoAt (x : Vec Ideal S8x256x18944 .bf16) (b : Fin 8) (s : Fin 256) : BitVec 32 := kerExpo (rowMax fun k => x (ix3 b s k))

/-- Element `(b, s, o)` of the first result. -/
def lineAt (x : Vec Ideal S8x256x18944 .bf16) (w : Vec Ideal S18944x3584 .fp8e4m3) (u : Vec Ideal S3584 .f32) (a : Vec Ideal S2x18944x16 .bf16)
    (d : Vec Ideal S2x16x1792 .bf16) (b : Fin 8) (s : Fin 256) (o : Fin 3584) : EReal :=
  (∑ k : Fin 18944, clip (x (ix3 b s k)) (kerInv (expoAt x b s)) * w (ix2 k o)) * kerScale (expoAt x b s) * u (ix1 o)
    + Ideal.ofBits .f32 0x40000000#32 * ∑ r : Fin 16, (∑ i : Fin 18944, a (ix3 ⟨o.val / 1792, by omega⟩ i r) * x (ix3 b s i))
        * d (ix3 ⟨o.val / 1792, by omega⟩ r ⟨o.val % 1792, by omega⟩)

theorem x_row (c : Dev nD) (b : Fin 8) (s : Fin 256) (k : Fin 18944) :
    (V1 m ρ c main_v0 : Vec Ideal S2048x18944 .bf16) (ix2 (row b s) k) = (m ((c.tc : Thread nD τ).loc main_arg0) : Vec Ideal S8x256x18944 .bf16) (ix3 b s k) := by
  rw [v0]; exact x2_at _ b s k

theorem a_row (c : Dev nD) (n : Fin 2) (k : Fin 16) (i : Fin 18944) :
    (V1 m ρ c main_v1 : Vec Ideal S2x16x18944 .bf16) (ix3 n k i) = (m ((c.tc : Thread nD τ).loc main_arg3) : Vec Ideal S2x18944x16 .bf16) (ix3 n i k) := by
  rw [v1]; exact at_at _ n k i

theorem u_row (c : Dev nD) (o : Fin 3584) :
    (V3 m ρ c main_v3 : Vec Ideal S1x3584 .f32) (ix2 0 o) = (m ((c.tc : Thread nD τ).loc main_arg2) : Vec Ideal S3584 .f32) (ix1 o) := by
  rw [v3]; exact ws_at _ o

theorem codes_value (c : Dev nD) (b : Fin 8) (s : Fin 256) (k : Fin 18944) :
    (W5 m ρ c (Proc.devRef .tc main_v6) : Vec Ideal S8x256x18944 .fp8e4m3) (ix3 b s k)
      = clip ((m ((c.tc : Thread nD τ).loc main_arg0) : Vec Ideal S8x256x18944 .bf16) (ix3 b s k))
          (kerInv (expoAt (m ((c.tc : Thread nD τ).loc main_arg0)) b s)) := by
  rw [v6, codes_at, w4_0, codesOf_at]
  unfold expoAt
  simp only [x_row m ρ c b s]

theorem scale_value (c : Dev nD) (b : Fin 8) (s : Fin 256) (q : Fin 1) :
    (W5 m ρ c (Proc.devRef .tc main_v7) : Vec Ideal S8x256x1 .f32) (ix3 b s q)
      = kerScale (expoAt (m ((c.tc : Thread nD τ).loc main_arg0)) b s) := by
  rw [v7, scale_at, w4_1, scaleOf_at]
  unfold expoAt
  simp only [x_row m ρ c b s]

theorem y_value (c : Dev nD) (b : Fin 8) (s : Fin 256) (o : Fin 3584) :
    (W5 m ρ c (Proc.devRef .tc main_v5) : Vec Ideal S8x256x3584 .bf16) (ix3 b s o)
      = lineAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b s o := by
  have e1 : V3 m ρ c main_arg1 = m ((c.tc : Thread nD τ).loc main_arg1) := W3_args m ρ c main_arg1 (by decide +kernel)
  have e4 : V3 m ρ c main_arg4 = m ((c.tc : Thread nD τ).loc main_arg4) := W3_args m ρ c main_arg4 (by decide +kernel)
  rw [v5, y_at, v4, linArr_at, linAt, linOf_def, e1, e4, v2_0, v2_1, v2_2]
  unfold lineAt expoAt
  simp only [codesOf_at, scaleOf_at, lowOf_at, x_row m ρ c b s, a_row m ρ c, u_row m ρ c]

end Cert.KernelIdeal.Value

end
-- ==== Proof.RefPoint.lean ====
/- What the reference's body computes, element by element, at the extended reals. -/
module

public import proofs.«01_k».proof.Proof.Gen.ReferenceIdeal.Frame
public import proofs.«01_k».proof.Proof.Row
public import Idealize.ShloMosaic.Lib.Pointwise

@[expose] public section

set_option maxRecDepth 16384

noncomputable section

namespace Cert.ReferenceIdeal.Point

open Idealize.ShloMosaic Idealize.SL.Sem
open Cert.ReferenceIdeal Cert.ReferenceIdeal.Gen Cert.Exponent Cert.Row

/-- The largest magnitude of each row. -/
def amax (x : FVec Ideal S8x256x18944 .f32) : FVec Ideal S8x256x1 .f32 :=
  shapeCast S8x256x1 (multiReduction .maximumf [2] S8x256 (absf x) 0xFF800000#32 reduces_S8x256x18944_S8x256 (.inl rfl) rfl)
    shapeCasts_S8x256_S8x256x1

theorem amax_at (x : FVec Ideal S8x256x18944 .f32) (b : Fin 8) (s : Fin 256) (q : Fin 1) :
    amax x (ix3 b s q) = rowMax fun k => x (ix3 b s k) := by
  unfold rowMax
  rw [← bot_f32]
  pointwise [amax]
  rfl

/-- The exponents from the largest magnitudes. -/
def expo (v : FVec Ideal S8x256x1 .f32) : FVec Ideal S8x256x1 .f32 :=
  have w := mulf v (broadcast S8x256x1 (Scalar.ofBits .f32 0x3B124925#32))
  select (cmpf .oeq v (broadcast S8x256x1 (Scalar.ofBits .f32 0x00000000#32))) (broadcast S8x256x1 (Scalar.ofBits .f32 0x00000000#32))
    (select (cmpf .olt w (broadcast S8x256x1 (Scalar.ofBits .f32 0x00800000#32))) (broadcast S8x256x1 (Scalar.ofBits .f32 0x00000000#32))
      (addf (floor (divf (log w) (log (broadcast S8x256x1 (Scalar.ofBits .f32 0x40000000#32))))) (broadcast S8x256x1 (Scalar.ofBits .f32 0x3F800000#32))))

theorem expo_at (v : FVec Ideal S8x256x1 .f32) (j : S8x256x1.Idx) : expo v j = refExpo (v j) := by
  pointwise [expo, refExpo]

theorem pay2 (x : Vec Ideal S8x256x18944 .bf16) : k0_pay2 x = x := rfl

theorem pay3 (x : Vec Ideal S8x256x18944 .bf16) : k0_pay3 x = expo (amax (k0_pay2 x)) := rfl

/-- The exponent of a row. -/
def expoAt (x : Vec Ideal S8x256x18944 .bf16) (b : Fin 8) (s : Fin 256) : EReal := refExpo (rowMax fun k => x (ix3 b s k))

theorem pay3_at (x : Vec Ideal S8x256x18944 .bf16) (b : Fin 8) (s : Fin 256) (q : Fin 1) : k0_pay3 x (ix3 b s q) = expoAt x b s := by
  rw [pay3, expo_at, amax_at, pay2]
  unfold expoAt
  with_reducible rfl

theorem exp2_at (v : FVec Ideal S8x256x1 .f32) (j : S8x256x1.Idx) : exp2 v j = Ideal.exp2 (v j) := rfl

theorem pay4 (x : Vec Ideal S8x256x18944 .bf16) : k0_pay4 x = exp2 (k0_pay3 x) := rfl

/-- The scale of a row. -/
theorem pay4_at (x : Vec Ideal S8x256x18944 .bf16) (b : Fin 8) (s : Fin 256) (q : Fin 1) :
    k0_pay4 x (ix3 b s q) = Ideal.exp2 (expoAt x b s) := by
  rw [pay4, exp2_at, pay3_at]

/-- The codes from the inverse scales. -/
def codes (x : FVec Ideal S8x256x18944 .f32) (i : FVec Ideal S8x256x1 .f32) : FVec Ideal S8x256x18944 .fp8e4m3 :=
  truncf .fp8e4m3 (minimumf (broadcast S8x256x18944 (Scalar.ofBits .f32 0x43E00000#32))
    (maximumf (broadcast S8x256x18944 (Scalar.ofBits .f32 0xC3E00000#32))
      (mulf x (broadcastTo S8x256x18944 i broadcasts_S8x256x1_S8x256x18944)))) bitsLt_fp8e4m3_f32

theorem codes_at (x : FVec Ideal S8x256x18944 .f32) (i : FVec Ideal S8x256x1 .f32) (b : Fin 8) (s : Fin 256) (k : Fin 18944) :
    codes x i (ix3 b s k) = clip (x (ix3 b s k)) (i (ix3 b s 0)) := by
  unfold clip
  pointwise [codes]

/-- The inverse scales from the exponents. -/
def inv (e : FVec Ideal S8x256x1 .f32) : FVec Ideal S8x256x1 .f32 := exp2 (subf (broadcast S8x256x1 (Scalar.ofBits .f32 0x00000000#32)) e)

theorem inv_at (e : FVec Ideal S8x256x1 .f32) (j : S8x256x1.Idx) : inv e j = Ideal.exp2 (Ideal.ofBits .f32 0x00000000#32 - e j) := rfl

theorem pay5 (x : Vec Ideal S8x256x18944 .bf16) : k0_pay5 x = codes (k0_pay2 x) (inv (k0_pay3 x)) := rfl

/-- The code of an element. -/
theorem pay5_at (x : Vec Ideal S8x256x18944 .bf16) (b : Fin 8) (s : Fin 256) (k : Fin 18944) :
    k0_pay5 x (ix3 b s k) = clip (x (ix3 b s k)) (Ideal.exp2 (Ideal.ofBits .f32 0x00000000#32 - expoAt x b s)) := by
  rw [pay5, codes_at, inv_at, pay3_at, pay2]

/-! The first result. -/

def row (b : Fin 8) (s : Fin 256) : Fin 2048 := ⟨b * 256 + s, by omega⟩

theorem flat_at {φ : FTy} (x : FVec Ideal S8x256x18944 φ) (b : Fin 8) (s : Fin 256) (k : Fin 18944) :
    shapeCast S2048x18944 x shapeCasts_S8x256x18944_S2048x18944 (ix2 (row b s) k) = x (ix3 b s k) := by
  unfold row
  pointwise

/-- The codes' product with the weights, scaled. -/
def base (q : FVec Ideal S2048x18944 .fp8e4m3) (w : FVec Ideal S18944x3584 .fp8e4m3) (sc : FVec Ideal S8x256x1 .f32) (u : FVec Ideal S3584 .f32) :
    FVec Ideal S8x256x3584 .f32 :=
  mulf (mulf (shapeCast S8x256x3584 (matmul dot_S2048x18944_S18944x3584_S2048x3584_1_0_0_1_n_n none q w (constant S2048x3584 .f32 0x00000000#32))
      shapeCasts_S2048x3584_S8x256x3584) (broadcastTo S8x256x3584 sc broadcasts_S8x256x1_S8x256x3584))
    (broadcastTo S8x256x3584 (shapeCast S1x1x3584 u shapeCasts_S3584_S1x1x3584) broadcasts_S1x1x3584_S8x256x3584)

theorem base_at (q : FVec Ideal S2048x18944 .fp8e4m3) (w : FVec Ideal S18944x3584 .fp8e4m3) (sc : FVec Ideal S8x256x1 .f32) (u : FVec Ideal S3584 .f32)
    (b : Fin 8) (s : Fin 256) (o : Fin 3584) :
    base q w sc u (ix3 b s o) = (∑ k : Fin 18944, q (ix2 (row b s) k) * w (ix2 k o)) * sc (ix3 b s 0) * u (ix1 o) := by
  unfold row
  pointwise [base]

/-- One slice's low-rank product. -/
def delta (x : FVec Ideal S2048x18944 .bf16) (a : FVec Ideal S1x18944x16 .bf16) (d : FVec Ideal S1x16x1792 .bf16) : FVec Ideal S2048x1792 .f32 :=
  matmul dot_S2048x16_S16x1792_S2048x1792_1_0_0_1_n_n none
    (truncf .bf16 (matmul dot_S2048x18944_S18944x16_S2048x16_1_0_0_1_n_n none x (shapeCast S18944x16 a shapeCasts_S1x18944x16_S18944x16)
      (constant S2048x16 .f32 0x00000000#32)) bitsLt_bf16_f32)
    (shapeCast S16x1792 d shapeCasts_S1x16x1792_S16x1792) (constant S2048x1792 .f32 0x00000000#32)

theorem delta_at (x : FVec Ideal S2048x18944 .bf16) (a : FVec Ideal S1x18944x16 .bf16) (d : FVec Ideal S1x16x1792 .bf16) (r : Fin 2048) (p : Fin 1792) :
    delta x a d (ix2 r p) = ∑ k : Fin 16, (∑ i : Fin 18944, x (ix2 r i) * a (ix3 0 i k)) * d (ix3 0 k p) := by
  pointwise [delta]

/-- The two slices side by side. -/
def both (v w : FVec Ideal S2048x1792 .f32) : FVec Ideal S8x256x3584 .f32 :=
  shapeCast S8x256x3584 (concatenate S2048x3584 1 [⟨S2048x1792, v⟩, ⟨S2048x1792, w⟩] concatenates_S2048x1792_S2048x1792_S2048x3584_d1)
    shapeCasts_S2048x3584_S8x256x3584

theorem both_at (v w : FVec Ideal S2048x1792 .f32) (b : Fin 8) (s : Fin 256) (o : Fin 3584) :
    both v w (ix3 b s o) = if h : (o : ℕ) < 1792 then v (ix2 (row b s) ⟨o, h⟩) else w (ix2 (row b s) ⟨o - 1792, by omega⟩) := by
  unfold row
  pointwise [both]

theorem sum_at (v w : FVec Ideal S8x256x3584 .f32) (j : S8x256x3584.Idx) :
    truncf .bf16 (addf v (mulf (broadcast S8x256x3584 (Scalar.ofBits .f32 0x40000000#32)) w)) bitsLt_bf16_f32 j
      = v j + Ideal.ofBits .f32 0x40000000#32 * w j := rfl

theorem pay1 (x : Vec Ideal S8x256x18944 .bf16) (sc : FVec Ideal S8x256x1 .f32) (q : FVec Ideal S2048x18944 .fp8e4m3) (w : Vec Ideal S18944x3584 .fp8e4m3)
    (u : Vec Ideal S3584 .f32) (a0 : Vec Ideal S1x18944x16 .bf16) (d0 : Vec Ideal S1x16x1792 .bf16) (a1 : Vec Ideal S1x18944x16 .bf16) (d1 : Vec Ideal S1x16x1792 .bf16) :
    k0_pay1 x sc q w u a0 d0 a1 d1 = truncf .bf16 (addf (base q w sc u) (mulf (broadcast S8x256x3584 (Scalar.ofBits .f32 0x40000000#32))
      (both (delta (shapeCast S2048x18944 x shapeCasts_S8x256x18944_S2048x18944) a0 d0)
        (delta (shapeCast S2048x18944 x shapeCasts_S8x256x18944_S2048x18944) a1 d1)))) bitsLt_bf16_f32 := rfl

theorem pay6 (x : Vec Ideal S8x256x18944 .bf16) : k0_pay6 x = shapeCast S2048x18944 (k0_pay5 x) shapeCasts_S8x256x18944_S2048x18944 := rfl

end Cert.ReferenceIdeal.Point

end
-- ==== Proof.RefValue.lean ====
/- The reference's three results as functions of its arguments, element by element. -/
module

public import proofs.«01_k».proof.Proof.RefPoint
public import Idealize.ShloMosaic.Lib.Pipeline.ValueKit

@[expose] public section

set_option maxRecDepth 16384

noncomputable section

namespace Cert.ReferenceIdeal.Value

open Idealize.ShloMosaic Idealize.ShloMosaic.TcCoe Idealize.ShloMosaic.Tactic Idealize.SL.Sem
open Idealize.ShloMosaic.Pipeline (Dat)
open Cert.ReferenceIdeal Cert.ReferenceIdeal.Gen Cert.ReferenceIdeal.Point Cert.Exponent Cert.Row

/-- One slice's low-rank product at column `p` of the slice. -/
def lowAt (x : Vec Ideal S8x256x18944 .bf16) (a : Vec Ideal S2x18944x16 .bf16) (d : Vec Ideal S2x16x1792 .bf16) (b : Fin 8) (s : Fin 256)
    (n : Fin 2) (p : Fin 1792) : EReal :=
  ∑ r : Fin 16, (∑ i : Fin 18944, x (ix3 b s i) * a (ix3 n i r)) * d (ix3 n r p)

/-- Element `(b, s, o)` of the first result. -/
def lineAt (x : Vec Ideal S8x256x18944 .bf16) (w : Vec Ideal S18944x3584 .fp8e4m3) (u : Vec Ideal S3584 .f32) (a : Vec Ideal S2x18944x16 .bf16)
    (d : Vec Ideal S2x16x1792 .bf16) (b : Fin 8) (s : Fin 256) (o : Fin 3584) : EReal :=
  (∑ k : Fin 18944, clip (x (ix3 b s k)) (Ideal.exp2 (Ideal.ofBits .f32 0x00000000#32 - expoAt x b s)) * w (ix2 k o))
      * Ideal.exp2 (expoAt x b s) * u (ix1 o)
    + Ideal.ofBits .f32 0x40000000#32 * lowAt x a d b s ⟨o.val / 1792, by omega⟩ ⟨o.val % 1792, by omega⟩

theorem lda_0 (A : Vec Ideal S2x18944x16 .bf16) (i : Fin 18944) (k : Fin 16) :
    View.ld (Val := Elt Ideal) (e' := .bf16) A r0_4 (ix3 0 i k) = A (ix3 0 i k) := by
  exact View.ld_unit_apply_of A _ _ _ _ _ fun a => by
    match a with
    | 0 => rfl
    | 1 => exact (Nat.zero_add _).symm
    | 2 => exact (Nat.zero_add _).symm

theorem lda_1 (A : Vec Ideal S2x18944x16 .bf16) (i : Fin 18944) (k : Fin 16) :
    View.ld (Val := Elt Ideal) (e' := .bf16) A r0_6 (ix3 0 i k) = A (ix3 1 i k) := by
  exact View.ld_unit_apply_of A _ _ _ _ _ fun a => by
    match a with
    | 0 => rfl
    | 1 => exact (Nat.zero_add _).symm
    | 2 => exact (Nat.zero_add _).symm

theorem ldb_0 (A : Vec Ideal S2x16x1792 .bf16) (i : Fin 16) (k : Fin 1792) :
    View.ld (Val := Elt Ideal) (e' := .bf16) A r0_5 (ix3 0 i k) = A (ix3 0 i k) := by
  exact View.ld_unit_apply_of A _ _ _ _ _ fun a => by
    match a with
    | 0 => rfl
    | 1 => exact (Nat.zero_add _).symm
    | 2 => exact (Nat.zero_add _).symm

theorem ldb_1 (A : Vec Ideal S2x16x1792 .bf16) (i : Fin 16) (k : Fin 1792) :
    View.ld (Val := Elt Ideal) (e' := .bf16) A r0_7 (ix3 0 i k) = A (ix3 1 i k) := by
  exact View.ld_unit_apply_of A _ _ _ _ _ fun a => by
    match a with
    | 0 => rfl
    | 1 => exact (Nat.zero_add _).symm
    | 2 => exact (Nat.zero_add _).symm

theorem delta_of (x : Vec Ideal S8x256x18944 .bf16) (a : Vec Ideal S2x18944x16 .bf16) (d : Vec Ideal S2x16x1792 .bf16)
    (a' : FVec Ideal S1x18944x16 .bf16) (d' : FVec Ideal S1x16x1792 .bf16) (n : Fin 2) (ha : ∀ i k, a' (ix3 0 i k) = a (ix3 n i k))
    (hd : ∀ k p, d' (ix3 0 k p) = d (ix3 n k p)) (b : Fin 8) (s : Fin 256) (p : Fin 1792) :
    delta (shapeCast S2048x18944 x shapeCasts_S8x256x18944_S2048x18944) a' d' (ix2 (row b s) p) = lowAt x a d b s n p := by
  unfold lowAt
  rw [delta_at]
  simp only [flat_at, ha, hd]

/-- One slice's product from its rectangles of the two factors. -/
theorem delta_0 (x : Vec Ideal S8x256x18944 .bf16) (a : Vec Ideal S2x18944x16 .bf16) (d : Vec Ideal S2x16x1792 .bf16) (b : Fin 8) (s : Fin 256) (p : Fin 1792) :
    delta (shapeCast S2048x18944 x shapeCasts_S8x256x18944_S2048x18944) (View.ld (Val := Elt Ideal) (e' := .bf16) a r0_4)
      (View.ld (Val := Elt Ideal) (e' := .bf16) d r0_5) (ix2 (row b s) p) = lowAt x a d b s 0 p :=
  delta_of x a d _ _ 0 (lda_0 a) (ldb_0 d) b s p

theorem delta_1 (x : Vec Ideal S8x256x18944 .bf16) (a : Vec Ideal S2x18944x16 .bf16) (d : Vec Ideal S2x16x1792 .bf16) (b : Fin 8) (s : Fin 256) (p : Fin 1792) :
    delta (shapeCast S2048x18944 x shapeCasts_S8x256x18944_S2048x18944) (View.ld (Val := Elt Ideal) (e' := .bf16) a r0_6)
      (View.ld (Val := Elt Ideal) (e' := .bf16) d r0_7) (ix2 (row b s) p) = lowAt x a d b s 1 p :=
  delta_of x a d _ _ 1 (lda_1 a) (ldb_1 d) b s p

/-- Column `o` lies in slice `o / 1792`. -/
theorem slice_at (f : Fin 2 → Fin 1792 → EReal) (o : Fin 3584) :
    (if h : (o : ℕ) < 1792 then f 0 ⟨o, h⟩ else f 1 ⟨o - 1792, by omega⟩) = f ⟨o.val / 1792, by omega⟩ ⟨o.val % 1792, by omega⟩ := by
  split
  · rename_i h
    have h1 : (⟨o.val / 1792, by omega⟩ : Fin 2) = 0 := Fin.ext (by show o.val / 1792 = 0; omega)
    have h2 : (⟨o.val % 1792, by omega⟩ : Fin 1792) = ⟨o, h⟩ := Fin.ext (by show o.val % 1792 = o.val; omega)
    rw [h1, h2]
  · rename_i h
    have h1 : (⟨o.val / 1792, by omega⟩ : Fin 2) = 1 := Fin.ext (by show o.val / 1792 = 1; omega)
    have h2 : (⟨o.val % 1792, by omega⟩ : Fin 1792) = ⟨o - 1792, by omega⟩ := Fin.ext (by show o.val % 1792 = o.val - 1792; omega)
    rw [h1, h2]

/-- The first result as the body computes it from the whole arguments. -/
def lineArr (x : Vec Ideal S8x256x18944 .bf16) (w : Vec Ideal S18944x3584 .fp8e4m3) (u : Vec Ideal S3584 .f32) (a : Vec Ideal S2x18944x16 .bf16)
    (d : Vec Ideal S2x16x1792 .bf16) : Vec Ideal S8x256x3584 .bf16 :=
  k0_pay1 x (k0_pay4 x) (k0_pay6 x) w u (View.ld a r0_4) (View.ld d r0_5) (View.ld a r0_6) (View.ld d r0_7)

theorem lineArr_at (x : Vec Ideal S8x256x18944 .bf16) (w : Vec Ideal S18944x3584 .fp8e4m3) (u : Vec Ideal S3584 .f32) (a : Vec Ideal S2x18944x16 .bf16)
    (d : Vec Ideal S2x16x1792 .bf16) (b : Fin 8) (s : Fin 256) (o : Fin 3584) : lineArr x w u a d (ix3 b s o) = lineAt x w u a d b s o := by
  unfold lineArr lineAt
  rw [pay1, sum_at, base_at, both_at, pay6, pay4_at, ← slice_at (lowAt x a d b s) o]
  simp only [delta_0, delta_1, flat_at, pay5_at]

variable (m : (ℓ : Loc nD τ sig) → Buf (Elt Ideal) ℓ)

theorem idx : ∀ t : Fin cfg0.N, win0_0.index t = ![0, 0, 0] ∧ win0_1.index t = ![0, 0] ∧ win0_2.index t = ![0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

/-! Each argument's block is the whole argument. -/

theorem blk0 (c : Dev nD) (t : Fin cfg0.N) : (iblk m c 0 t : Vec Ideal S8x256x18944 .bf16) = m ((c.tc : Thread nD τ).loc main_arg0) := by
  funext j; idx_vars j; blk_point [iblk, V, idx t]

theorem blk1 (c : Dev nD) (t : Fin cfg0.N) : (iblk m c 1 t : Vec Ideal S18944x3584 .fp8e4m3) = m ((c.tc : Thread nD τ).loc main_arg1) := by
  funext j; idx_vars j; blk_point [iblk, V, idx t]

theorem blk2 (c : Dev nD) (t : Fin cfg0.N) : (iblk m c 2 t : Vec Ideal S3584 .f32) = m ((c.tc : Thread nD τ).loc main_arg2) := by
  funext j; idx_vars j; blk_point [iblk, V, idx t]

theorem blk3 (c : Dev nD) (t : Fin cfg0.N) : (iblk m c 3 t : Vec Ideal S2x18944x16 .bf16) = m ((c.tc : Thread nD τ).loc main_arg3) := by
  funext j; idx_vars j; blk_point [iblk, V, idx t]

theorem blk4 (c : Dev nD) (t : Fin cfg0.N) : (iblk m c 4 t : Vec Ideal S2x16x1792 .bf16) = m ((c.tc : Thread nD τ).loc main_arg4) := by
  funext j; idx_vars j; blk_point [iblk, V, idx t]

theorem final7 (c : Dev nD) : (dats m 0 c).arrAt 7 (cfgs 0).N = k0_pay4 (F := Ideal) (m ((c.tc : Thread nD τ).loc main_arg0)) := by
  refine (dats m 0 c).arrAt_eq_of_after_last 7 t0_0 (by decide +kernel) _ fun j => ?_
  blk_simp; rw [after0_7]; frame_out
  rw [blk0]

theorem final6 (c : Dev nD) : (dats m 0 c).arrAt 6 (cfgs 0).N = k0_pay5 (F := Ideal) (m ((c.tc : Thread nD τ).loc main_arg0)) := by
  refine (dats m 0 c).arrAt_eq_of_after_last 6 t0_0 (by decide +kernel) _ fun j => ?_
  blk_simp; rw [after0_6]; frame_out
  rw [blk0]

theorem final5 (c : Dev nD) : (dats m 0 c).arrAt 5 (cfgs 0).N = lineArr (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_after_last 5 t0_0 (by decide +kernel) _ fun j => ?_
  blk_simp; rw [after0_5]; frame_out
  rw [blk0, blk1, blk2, blk3, blk4]
  rfl

end Cert.ReferenceIdeal.Value

end
-- ==== Proof.Equation.lean ====
/- The two programs' results agree on an argument whose elements are bounded by the largest finite bf16. -/
module

public import proofs.«01_k».proof.Proof.KernelValue
public import proofs.«01_k».proof.Proof.RefValue
public import proofs.«01_k».proof.Proof.Gen.Pre_finite
public import Idealize.ShloMosaic.Lib.ReduceAll

@[expose] public section

set_option maxRecDepth 16384

noncomputable section

namespace Cert.Equation

open Idealize.ShloMosaic Idealize.ShloMosaic.TcCoe Idealize.SL.Sem
open Cert.Exponent Cert.Row

/-- What the precondition says of an element. -/
theorem bounded (x : FVec Ideal Cert.Pre_finite.S8x256x18944 .bf16) (w : FVec Ideal Cert.Pre_finite.S18944x3584 .fp8e4m3)
    (u : FVec Ideal Cert.Pre_finite.S3584 .f32) (a : FVec Ideal Cert.Pre_finite.S2x18944x16 .bf16) (d : FVec Ideal Cert.Pre_finite.S2x16x1792 .bf16)
    (h : Cert.Pre_finite.fn (F := Ideal) x w u a d = fun _ => 1#1) (j : Cert.Pre_finite.S8x256x18944.Idx) :
    max (x j) (-x j) ≤ Ideal.ofBits .bf16 0x7F7F#16 := by
  haveI : Subsingleton Cert.Pre_finite.S_.Idx := ⟨fun a b => funext fun i => i.elim0⟩
  have e := congrFun h (fun i => i.elim0)
  unfold Cert.Pre_finite.fn at e
  have e1 := Host.reduce_andi_all _ _ _ _ _ e j
  have e2 : BitVec.ofBool (decide (max (x j) (-x j) ≤ Ideal.ofBits .bf16 0x7F7F#16)) = 1#1 := e1
  by_contra hc
  rw [decide_eq_false hc] at e2
  exact absurd e2 (by decide)

/-- Every element is bounded by the largest finite bf16. -/
def Bounded (x : FVec Ideal Cert.KernelIdeal.S8x256x18944 .bf16) : Prop :=
  ∀ (b : Fin 8) (s : Fin 256) (k : Fin 18944), max (x (ix3 b s k)) (-x (ix3 b s k)) ≤ Ideal.ofBits .bf16 0x7F7F#16

theorem bounded_of_pre (x : FVec Ideal Cert.Pre_finite.S8x256x18944 .bf16) (w : FVec Ideal Cert.Pre_finite.S18944x3584 .fp8e4m3)
    (u : FVec Ideal Cert.Pre_finite.S3584 .f32) (a : FVec Ideal Cert.Pre_finite.S2x18944x16 .bf16) (d : FVec Ideal Cert.Pre_finite.S2x16x1792 .bf16)
    (h : Cert.Pre_finite.fn (F := Ideal) x w u a d = fun _ => 1#1) : Bounded x := fun b s k => bounded x w u a d h (ix3 b s k)

/-- Two arrays over 8 × 256 × n indices are equal when they are equal at every triple. -/
theorem ext3 {n : ℕ} {α : Type} (f g : (⟨3, ![8, 256, n]⟩ : Shape).Idx → α)
    (h : ∀ (b : Fin 8) (s : Fin 256) (k : Fin n), f (ix3 b s k) = g (ix3 b s k)) : f = g := by
  funext j
  rw [eq_ix3 j]
  exact h _ _ _

section

variable (x : FVec Ideal Cert.KernelIdeal.S8x256x18944 .bf16) (hx : Bounded x)

include hx

/-- The two ways of finding a row's scale and its inverse agree. -/
theorem scales (b : Fin 8) (s : Fin 256) :
    kerScale (Cert.KernelIdeal.Value.expoAt x b s) = Ideal.exp2 (Cert.ReferenceIdeal.Point.expoAt x b s)
    ∧ kerInv (Cert.KernelIdeal.Value.expoAt x b s) = Ideal.exp2 (Ideal.ofBits .f32 0x00000000#32 - Cert.ReferenceIdeal.Point.expoAt x b s) := by
  unfold Cert.KernelIdeal.Value.expoAt Cert.ReferenceIdeal.Point.expoAt
  obtain ⟨a, ha, h0, h1⟩ := rowMax_real (fun k => x (ix3 b s k)) (hx b s)
  rw [ha]
  exact scale_agree a h0 h1

theorem lines (w : Vec Ideal Cert.KernelIdeal.S18944x3584 .fp8e4m3) (u : Vec Ideal Cert.KernelIdeal.S3584 .f32)
    (a : Vec Ideal Cert.KernelIdeal.S2x18944x16 .bf16) (d : Vec Ideal Cert.KernelIdeal.S2x16x1792 .bf16) (b : Fin 8) (s : Fin 256) (o : Fin 3584) :
    Cert.KernelIdeal.Value.lineAt x w u a d b s o = Cert.ReferenceIdeal.Value.lineAt x w u a d b s o := by
  unfold Cert.KernelIdeal.Value.lineAt Cert.ReferenceIdeal.Value.lineAt Cert.ReferenceIdeal.Value.lowAt
  rw [(scales x hx b s).1, (scales x hx b s).2]
  simp only [mul_comm (x (ix3 b s _))]

end

/-! The result arrays. -/

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)
  (hx : Bounded (m ((c.tc : Thread Cert.KernelIdeal.nD Cert.KernelIdeal.τ).loc Cert.KernelIdeal.main_arg0)))

include hx

theorem line_arr : Cert.ReferenceIdeal.Value.lineArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
    = Cert.KernelIdeal.Gen.W5 m ρ c (Proc.devRef .tc Cert.KernelIdeal.main_v5) := by
  refine ext3 _ _ fun b s o => ?_
  exact (Cert.ReferenceIdeal.Value.lineArr_at _ _ _ _ _ b s o).trans ((lines _ hx _ _ _ _ b s o).symm.trans (Cert.KernelIdeal.Value.y_value m ρ c b s o).symm)

theorem codes_arr : Cert.ReferenceIdeal.Gen.k0_pay5 (F := Ideal) (m ((c.tc : Thread Cert.KernelIdeal.nD Cert.KernelIdeal.τ).loc Cert.KernelIdeal.main_arg0))
    = Cert.KernelIdeal.Gen.W5 m ρ c (Proc.devRef .tc Cert.KernelIdeal.main_v6) := by
  refine ext3 _ _ fun b s k => ?_
  exact (Cert.ReferenceIdeal.Point.pay5_at _ b s k).trans ((congrArg (clip _) (scales _ hx b s).2.symm).trans (Cert.KernelIdeal.Value.codes_value m ρ c b s k).symm)

theorem scale_arr : Cert.ReferenceIdeal.Gen.k0_pay4 (F := Ideal) (m ((c.tc : Thread Cert.KernelIdeal.nD Cert.KernelIdeal.τ).loc Cert.KernelIdeal.main_arg0))
    = Cert.KernelIdeal.Gen.W5 m ρ c (Proc.devRef .tc Cert.KernelIdeal.main_v7) := by
  refine ext3 _ _ fun b s q => ?_
  exact (Cert.ReferenceIdeal.Point.pay4_at _ b s q).trans ((scales _ hx b s).1.symm.trans (Cert.KernelIdeal.Value.scale_value m ρ c b s q).symm)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Equation
public import Idealize.ShloMosaic.Adequacy
public import Idealize.ShloMosaic.Lib.Claim
public import Idealize.ShloMosaic.Init

@[expose] public section

noncomputable section

namespace Cert.Proof

open Idealize.ShloMosaic Idealize.ShloMosaic.TcCoe Idealize.SL.Sem

theorem algebraic : Cert.algebraic_KernelIdeal_ReferenceIdeal_pre_finite := by
  pair_intro
  · run_from Cert.KernelIdeal.Gen.run m g
  · run_from Cert.ReferenceIdeal.Gen.run_main m' g'
    · rw [Cert.ReferenceIdeal.Value.final5, (hagree c).1, (hagree c).2.1, (hagree c).2.2.1, (hagree c).2.2.2.1, (hagree c).2.2.2.2]
      exact Cert.Equation.line_arr m g c (Cert.Equation.bounded_of_pre _ _ _ _ _ (hpre c))
    · rw [Cert.ReferenceIdeal.Value.final6, (hagree c).1]
      exact Cert.Equation.codes_arr m g c (Cert.Equation.bounded_of_pre _ _ _ _ _ (hpre c))
    · rw [Cert.ReferenceIdeal.Value.final7, (hagree c).1]
      exact Cert.Equation.scale_arr m g c (Cert.Equation.bounded_of_pre _ _ _ _ _ (hpre c))

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
